-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S16x256x24x24 : Shape := ⟨4, ![16, 256, 24, 24]⟩
abbrev S1024x256 : Shape := ⟨2, ![1024, 256]⟩
abbrev S16x24x24x256 : Shape := ⟨4, ![16, 24, 24, 256]⟩
abbrev S9216x256 : Shape := ⟨2, ![9216, 256]⟩
abbrev S_ : Shape := ⟨0, ![]⟩
abbrev S9216 : Shape := ⟨1, ![9216]⟩
abbrev S9216x1 : Shape := ⟨2, ![9216, 1]⟩
abbrev S1024 : Shape := ⟨1, ![1024]⟩
abbrev S256x1024 : Shape := ⟨2, ![256, 1024]⟩
abbrev S9216x1024 : Shape := ⟨2, ![9216, 1024]⟩
abbrev S1x1024 : Shape := ⟨2, ![1, 1024]⟩

class Facts : Prop where
  transposes_S16x256x24x24_S16x24x24x256_0_2_3_1 : S16x256x24x24.Transposes [0, 2, 3, 1] S16x24x24x256
  shapeCasts_S16x24x24x256_S9216x256 : S16x24x24x256.ShapeCasts S9216x256
  reducesTo_S9216x256_S9216_d1 : S9216x256.ReducesTo [1] S9216
  h_S_ : 0 < S_.numel
  bcast_S9216_S9216x1_0 : S9216.BroadcastsInDim S9216x1 (![0] : Fin 1 → Fin S9216x1.rank)
  reducesTo_S1024x256_S1024_d1 : S1024x256.ReducesTo [1] S1024
  transposes_S1024x256_S256x1024_1_0 : S1024x256.Transposes [1, 0] S256x1024
  bcast_S1024_S1x1024_1 : S1024.BroadcastsInDim S1x1024 (![1] : Fin 1 → Fin S1x1024.rank)
  bcast_S9216x1_S9216x1024_0_1 : S9216x1.BroadcastsInDim S9216x1024 (![0, 1] : Fin 2 → Fin S9216x1024.rank)
  bcast_S1x1024_S9216x1024_0_1 : S1x1024.BroadcastsInDim S9216x1024 (![0, 1] : Fin 2 → Fin S9216x1024.rank)
  bcast_S_S9216x1024 : S_.BroadcastsInDim S9216x1024 (![] : Fin 0 → Fin S9216x1024.rank)
  reducesTo_S9216x1024_S9216_d1 : S9216x1024.ReducesTo [1] S9216
  natLt_1_32 : 1 < 32
  bcast_S_S9216 : S_.BroadcastsInDim S9216 (![] : Fin 0 → Fin S9216.rank)
  dot_S9216x256_S256x1024_S9216x1024_1_0_0_1_n_n_wf : DotDims.WF S9216x256 S256x1024 S9216x1024 [1] [0] [0] [1] [] []

variable [Facts]

def dot_S9216x256_S256x1024_S9216x1024_1_0_0_1_n_n : DotDims S9216x256 S256x1024 S9216x1024 where
  lhsContracting := [1]
  rhsContracting := [0]
  lhsNonContracting := [0]
  rhsNonContracting := [1]
  lhsBatch := []
  rhsBatch := []
  wf := dot_S9216x256_S256x1024_S9216x1024_1_0_0_1_n_n_wf
def fn_part1 {F : FTy → Type} [FloatOps F] (main_v19 : IVec S9216x1024 1) : IVec S9216 1 :=
  let main_v20 : IVec S9216x1024 32 := (extui 32 · natLt_1_32) main_v19
  let main_c : IVec S_ 32 := constantI S_ 32 0#32
  let main_v21 : IVec S9216 32 := (fun x v => Host.reduce IntOp.addi x v reducesTo_S9216x1024_S9216_d1 h_S_) main_v20 main_c
  let main_c_3 : IVec S_ 32 := constantI S_ 32 1#32
  let main_v22 : IVec S9216 32 := broadcastInDim S9216 ![] bcast_S_S9216 main_c_3
  let main_v23 : IVec S9216 1 := cmpi .eq main_v21 main_v22
  main_v23

def fn {F : FTy → Type} [FloatOps F] (main_arg0 : FVec F S16x256x24x24 .f32) (main_arg1 : FVec F S1024x256 .f32) : IVec S9216 1 :=
  let main_v0 : FVec F S16x24x24x256 .f32 := (transpose S16x24x24x256 [0, 2, 3, 1] · transposes_S16x256x24x24_S16x24x24x256_0_2_3_1) main_arg0
  let main_v1 : FVec F S9216x256 .f32 := shapeCast S9216x256 main_v0 shapeCasts_S16x24x24x256_S9216x256
  let main_v2 : FVec F S9216x256 .f32 := mulf main_v1 main_v1
  let main_cst : FVec F S_ .f32 := constant S_ .f32 0x00000000#32
  let main_v3 : FVec F S9216 .f32 := (fun x v => Host.reduceAdd x v reducesTo_S9216x256_S9216_d1 h_S_) main_v2 main_cst
  let main_v4 : FVec F S9216x1 .f32 := broadcastInDim S9216x1 ![0] bcast_S9216_S9216x1_0 main_v3
  let main_v5 : FVec F S1024x256 .f32 := mulf main_arg1 main_arg1
  let main_cst_0 : FVec F S_ .f32 := constant S_ .f32 0x00000000#32
  let main_v6 : FVec F S1024 .f32 := (fun x v => Host.reduceAdd x v reducesTo_S1024x256_S1024_d1 h_S_) main_v5 main_cst_0
  let main_v7 : FVec F S256x1024 .f32 := (transpose S256x1024 [1, 0] · transposes_S1024x256_S256x1024_1_0) main_arg1
  let main_v8 : FVec F S9216x1024 .f32 := (fun l r => Host.dotGeneral dot_S9216x256_S256x1024_S9216x1024_1_0_0_1_n_n none l r) main_v1 main_v7
  let main_v9 : FVec F S1x1024 .f32 := broadcastInDim S1x1024 ![1] bcast_S1024_S1x1024_1 main_v6
  let main_v10 : FVec F S9216x1024 .f32 := broadcastInDim S9216x1024 ![0, 1] bcast_S9216x1_S9216x1024_0_1 main_v4
  let main_v11 : FVec F S9216x1024 .f32 := broadcastInDim S9216x1024 ![0, 1] bcast_S1x1024_S9216x1024_0_1 main_v9
  let main_v12 : FVec F S9216x1024 .f32 := addf main_v10 main_v11
  let main_cst_1 : FVec F S_ .f32 := constant S_ .f32 0x40000000#32
  let main_v13 : FVec F S9216x1024 .f32 := broadcastInDim S9216x1024 ![] bcast_S_S9216x1024 main_cst_1
  let main_v14 : FVec F S9216x1024 .f32 := mulf main_v13 main_v8
  let main_v15 : FVec F S9216x1024 .f32 := subf main_v12 main_v14
  let main_cst_2 : FVec F S_ .f32 := constant S_ .f32 0x7F800000#32
  let main_v16 : FVec F S9216 .f32 := (fun x v => Host.reduce FloatOps.minimumf x v reducesTo_S9216x1024_S9216_d1 h_S_) main_v15 main_cst_2
  let main_v17 : FVec F S9216x1 .f32 := broadcastInDim S9216x1 ![0] bcast_S9216_S9216x1_0 main_v16
  let main_v18 : FVec F S9216x1024 .f32 := broadcastInDim S9216x1024 ![0, 1] bcast_S9216x1_S9216x1024_0_1 main_v17
  let main_v19 : IVec S9216x1024 1 := cmpf .oeq main_v15 main_v18
  fn_part1 (F := F) main_v19
-- ==== Kernel.lean ====
abbrev S16x256x24x24 : Shape := ⟨4, ![16, 256, 24, 24]⟩
abbrev S1024x256 : Shape := ⟨2, ![1024, 256]⟩
abbrev S16x256x576 : Shape := ⟨3, ![16, 256, 576]⟩
abbrev S16x1x576 : Shape := ⟨3, ![16, 1, 576]⟩
abbrev S1x1 : Shape := ⟨2, ![1, 1]⟩
abbrev S8x256x576 : Shape := ⟨3, ![8, 256, 576]⟩
abbrev S8x1x576 : Shape := ⟨3, ![8, 1, 576]⟩
abbrev S1024x1 : Shape := ⟨2, ![1024, 1]⟩
abbrev S1024 : Shape := ⟨1, ![1024]⟩
abbrev S1x256x576 : Shape := ⟨3, ![1, 256, 576]⟩
abbrev S256x576 : Shape := ⟨2, ![256, 576]⟩
abbrev S1024x576 : Shape := ⟨2, ![1024, 576]⟩
abbrev S576 : Shape := ⟨1, ![576]⟩
abbrev S1x1x576 : Shape := ⟨3, ![1, 1, 576]⟩
abbrev S1x576 : Shape := ⟨2, ![1, 576]⟩
abbrev S1 : Shape := ⟨1, ![1]⟩
abbrev S1x1x1 : Shape := ⟨3, ![1, 1, 1]⟩
abbrev S9216 : Shape := ⟨1, ![9216]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S16x256x24x24, .f32⟩
  | .hbm, ⟨1, _⟩ => ⟨S1024x256, .f32⟩
  | .hbm, ⟨2, _⟩ => ⟨S16x256x576, .f32⟩
  | .hbm, ⟨3, _⟩ => ⟨S16x256x576, .bf16⟩
  | .hbm, ⟨4, _⟩ => ⟨S16x1x576, .i32⟩
  | .hbm, ⟨5, _⟩ => ⟨S1x1, .f32⟩
  | .hbm, ⟨6, _⟩ => ⟨S16x256x576, .f32⟩
  | .hbm, ⟨7, _⟩ => ⟨S16x256x24x24, .f32⟩
  | .hbm, ⟨8, _⟩ => ⟨S9216, .i32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S8x256x576, .f32⟩
  | .local _ .vmem, ⟨1, _⟩ => ⟨S8x256x576, .f32⟩
  | .local _ .vmem, ⟨2, _⟩ => ⟨S1024x256, .f32⟩
  | .local _ .vmem, ⟨3, _⟩ => ⟨S8x256x576, .bf16⟩
  | .local _ .vmem, ⟨4, _⟩ => ⟨S8x256x576, .bf16⟩
  | .local _ .vmem, ⟨5, _⟩ => ⟨S8x1x576, .i32⟩
  | .local _ .vmem, ⟨6, _⟩ => ⟨S8x1x576, .i32⟩
  | .local _ .vmem, ⟨7, _⟩ => ⟨S1x1, .f32⟩
  | .local _ .vmem, ⟨8, _⟩ => ⟨S1024x1, .f32⟩
  | .local _ .vmem, ⟨9, _⟩ => ⟨S1024x256, .bf16⟩
  | _, _ => ⟨S16x256x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x256x576 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x576 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x256x24x24 : Shape := ⟨4, ![16, 256, 24, 24]⟩
abbrev S1024x256 : Shape := ⟨2, ![1024, 256]⟩
abbrev S16x24x24x256 : Shape := ⟨4, ![16, 24, 24, 256]⟩
abbrev S9216x256 : Shape := ⟨2, ![9216, 256]⟩
abbrev S_ : Shape := ⟨0, ![]⟩
abbrev S9216 : Shape := ⟨1, ![9216]⟩
abbrev S9216x1 : Shape := ⟨2, ![9216, 1]⟩
abbrev S1024 : Shape := ⟨1, ![1024]⟩
abbrev S256x1024 : Shape := ⟨2, ![256, 1024]⟩
abbrev S9216x1024 : Shape := ⟨2, ![9216, 1024]⟩
abbrev S1x1024 : Shape := ⟨2, ![1, 1024]⟩
abbrev S1 : Shape := ⟨1, ![1]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S16x256x24x24, .f32⟩
  | .hbm, ⟨1, _⟩ => ⟨S1024x256, .f32⟩
  | .hbm, ⟨2, _⟩ => ⟨S16x24x24x256, .f32⟩
  | .hbm, ⟨3, _⟩ => ⟨S9216x256, .f32⟩
  | .hbm, ⟨4, _⟩ => ⟨S9216x256, .f32⟩
  | .hbm, ⟨5, _⟩ => ⟨S_, .f32⟩
  | .hbm, ⟨6, _⟩ => ⟨S9216, .f32⟩
  | .hbm, ⟨7, _⟩ => ⟨S9216x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S256x1024, .f32⟩
  | .hbm, ⟨12, _⟩ => ⟨S9216x1024, .f32⟩
  | .hbm, ⟨13, _⟩ => ⟨S1x1024, .f32⟩
  | .hbm, ⟨14, _⟩ => ⟨S9216x1024, .f32⟩
  | .hbm, ⟨15, _⟩ => ⟨S9216x1024, .f32⟩
  | .hbm, ⟨16, _⟩ => ⟨S9216x1024, .f32⟩
  | .hbm, ⟨17, _⟩ => ⟨S_, .f32⟩
  | .hbm, ⟨18, _⟩ => ⟨S9216x1024, .f32⟩
  | .hbm, ⟨19, _⟩ => ⟨S9216x1024, .f32⟩
  | .hbm, ⟨20, _⟩ => ⟨S9216x1024, .f32⟩
  | .hbm, ⟨21, _⟩ => ⟨S9216x1024, .i32⟩
  | .hbm, ⟨22, _⟩ => ⟨S_, .f32⟩
  | .hbm, ⟨23, _⟩ => ⟨S_, .i32⟩
  | .hbm, ⟨24, _⟩ => ⟨S9216, .f32⟩
  | .hbm, ⟨25, _⟩ => ⟨S9216, .i32⟩
  | .hbm, ⟨26, _⟩ => ⟨S_, .i32⟩
  | .hbm, ⟨27, _⟩ => ⟨S9216, .i32⟩
  | .hbm, ⟨28, _⟩ => ⟨S9216, .i1⟩
  | .hbm, ⟨29, _⟩ => ⟨S_, .i32⟩
  | .hbm, ⟨30, _⟩ => ⟨S9216, .i32⟩
  | .hbm, ⟨31, _⟩ => ⟨S9216, .i32⟩
  | .hbm, ⟨32, _⟩ => ⟨S9216, .i32⟩
  | .hbm, ⟨33, _⟩ => ⟨S9216x1, .i32⟩
  | .hbm, ⟨34, _⟩ => ⟨S1, .i32⟩
  | .hbm, ⟨35, _⟩ => ⟨S_, .i32⟩
  | .hbm, ⟨36, _⟩ => ⟨S9216x1, .i32⟩
  | .hbm, ⟨37, _⟩ => ⟨S9216x1, .i1⟩
  | .hbm, ⟨38, _⟩ => ⟨S1x1, .i32⟩
  | .hbm, ⟨39, _⟩ => ⟨S9216x1, .i32⟩
  | .hbm, ⟨40, _⟩ => ⟨S9216x1, .i1⟩
  | .hbm, ⟨41, _⟩ => ⟨S9216x1, .i1⟩
  | .hbm, ⟨42, _⟩ => ⟨S_, .i1⟩
  | .hbm, ⟨43, _⟩ => ⟨S9216, .i1⟩
  | .hbm, ⟨44, _⟩ => ⟨S9216x256, .f32⟩
  | .hbm, ⟨45, _⟩ => ⟨S9216x256, .i1⟩
  | .hbm, ⟨46, _⟩ => ⟨S_, .f32⟩
  | .hbm, ⟨47, _⟩ => ⟨S9216x256, .f32⟩
  | .hbm, ⟨48, _⟩ => ⟨S9216x256, .f32⟩
  | .hbm, ⟨49, _⟩ => ⟨S16x24x24x256, .f32⟩
  | .hbm, ⟨50, _⟩ => ⟨S16x256x24x24, .f32⟩
  | .hbm, ⟨51, _⟩ => ⟨S16x256x24x24, .f32⟩
  | .hbm, ⟨52, _⟩ => ⟨S16x256x24x24, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S16x256x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩

abbrev nD : Nat := 1
abbrev τ : Topo := Topo.v7x

variable {F : FTy → Type} [FloatOps F]
-- ==== Proof.Slab.lean ====
/-
  What the body computes on one image of a block. The body is the same text eight times over, once for each image of
  its block of eight images; here the eight copies are given one vocabulary: the image's slab, and the codes, the
  quantized image and the loss step of a slab.
-/
module

public import proofs.«01_k».proof.Proof.Gen.KernelIdeal.Frame
public import Idealize.ShloMosaic.Lib.Pipeline.Value
public import Idealize.ShloMosaic.Lib.ValueIdxCore

@[expose] public section

noncomputable section

namespace Cert.Proof.Slab

open Cert.KernelIdeal Cert.KernelIdeal.Gen
open Idealize.ShloMosaic Idealize.ShloMosaic.TcCoe Idealize.ShloMosaic.ValueIdx

variable {F : FTy → Type} [FloatOps F]

/-- Image `n` of a block of eight images, as a block of one image. -/
def slab (x : Vec F S8x256x576 .f32) (n : ℕ) (hn : n < 8) : Vec F S1x256x576 .f32 :=
  fun j => x (ix3 (⟨n, hn⟩ : Fin 8) (j 1 : Fin 256) (j 2 : Fin 576))

/-- The codes of one image's vectors. -/
abbrev codes (cb : Vec F S1024x256 .f32) (x : Vec F S1x256x576 .f32) (h : Vec F S1024x1 .f32) : IVec S1x1x576 32 :=
  k0_pay11 cb x h

/-- One image's quantized vectors. -/
abbrev image (cb : Vec F S1024x256 .f32) (x : Vec F S1x256x576 .f32) (h : Vec F S1024x1 .f32)
    (cbb : Vec F S1024x256 .bf16) : FVec F S1x256x576 .bf16 :=
  k0_pay13 cb x h cbb

/-- The loss after one more image. -/
abbrev lossStep (cb : Vec F S1024x256 .f32) (x : Vec F S1x256x576 .f32) (h : Vec F S1024x1 .f32)
    (cbb : Vec F S1024x256 .bf16) (prev : Vec F S1x1 .f32) : FVec F S1x1 .f32 :=
  k0_pay15 (k0_pay14 cb x h cbb) prev

/-- The codes of a block's eight images. -/
def blockCodes (x : Vec F S8x256x576 .f32) (cb : Vec F S1024x256 .f32) (h : Vec F S1024x1 .f32) : Vec F S8x1x576 .i32 :=
  fun j => codes cb (slab x (j 0).val (j 0).isLt) h (ix3 (0 : Fin 1) (j 1 : Fin 1) (j 2 : Fin 576))

/-- The quantized vectors of a block's eight images. -/
def blockImage (x : Vec F S8x256x576 .f32) (cb : Vec F S1024x256 .f32) (h : Vec F S1024x1 .f32)
    (cbb : Vec F S1024x256 .bf16) : Vec F S8x256x576 .bf16 :=
  fun j => image cb (slab x (j 0).val (j 0).isLt) h cbb (ix3 (0 : Fin 1) (j 1 : Fin 256) (j 2 : Fin 576))

/-- The loss after the first `n` images of a block, from the loss before them. -/
def blockLoss (x : Vec F S8x256x576 .f32) (cb : Vec F S1024x256 .f32) (h : Vec F S1024x1 .f32)
    (cbb : Vec F S1024x256 .bf16) (prev : Vec F S1x1 .f32) : (n : ℕ) → n ≤ 8 → Vec F S1x1 .f32
  | 0, _ => prev
  | n + 1, hn => lossStep cb (slab x n hn) h cbb (blockLoss x cb h cbb prev n (Nat.le_of_succ_le hn))

/-- The load of image `n` of a block. -/
abbrev load (x : Vec F S8x256x576 .f32) (n : ℕ) (inb : ∀ a, (![n, 0, 0] : Fin 3 → ℕ) a + S1x256x576.size a ≤ S8x256x576.size a) :
    Vec F S1x256x576 .f32 :=
  View.ld (Val := Elt F) (e' := .f32) x (Rect.unit (s := S8x256x576) ![n, 0, 0] S1x256x576.size inb)

/-- Image `n` lies inside a block of eight where `n < 8`. -/
theorem inside (n : ℕ) (hn : n < 8) : ∀ a, (![n, 0, 0] : Fin 3 → ℕ) a + S1x256x576.size a ≤ S8x256x576.size a := by
  intro a
  match a with
  | ⟨0, _⟩ => exact hn
  | ⟨1, _⟩ => exact le_refl 256
  | ⟨2, _⟩ => exact le_refl 576

/-- The load reads the image's slab. -/
theorem load_eq (x : Vec F S8x256x576 .f32) (n : ℕ) (hn : n < 8) (inb) : load x n inb = slab x n hn := by
  funext j
  show x _ = x _
  congr 1
  funext a
  apply Fin.ext
  have h0 : (j 0 : ℕ) < 1 := (j 0).isLt
  match a with
  | ⟨0, _⟩ => show n + 1 * (j 0 : ℕ) = n; omega
  | ⟨1, _⟩ => show 0 + 1 * (j 1 : ℕ) = (j 1 : ℕ); omega
  | ⟨2, _⟩ => show 0 + 1 * (j 2 : ℕ) = (j 2 : ℕ); omega

/-- The loss after eight images is eight steps, one at each image's load. -/
theorem blockLoss_eight (x : Vec F S8x256x576 .f32) (cb : Vec F S1024x256 .f32) (h : Vec F S1024x1 .f32)
    (cbb : Vec F S1024x256 .bf16) (prev : Vec F S1x1 .f32) :
    blockLoss x cb h cbb prev 8 (le_refl 8)
      = (List.finRange 8).foldl (fun l n => lossStep cb (load x n.val (inside n.val n.isLt)) h cbb l) prev := by
  simp only [load_eq x _ (Fin.isLt _)]
  rfl

/-- The store of image `n`'s codes is that part of the block's codes. -/
theorem codes_piece (x : Vec F S8x256x576 .f32) (cb : Vec F S1024x256 .f32) (h : Vec F S1024x1 .f32) (n : ℕ)
    (inb : ∀ a, (![n, 0, 0] : Fin 3 → ℕ) a + S1x1x576.size a ≤ S8x1x576.size a) (w : S1x1x576.Idx → BitVec 32)
    (hw : ∀ inb', w = codes cb (load x n inb') h) (j : S1x1x576.Idx) :
    w j = blockCodes x cb h ((Rect.unit (s := S8x1x576) ![n, 0, 0] S1x1x576.size inb).emb j) := by
  have hn : n < 8 := inb 0
  have h0 : (j 0 : ℕ) < 1 := (j 0).isLt
  have h1 : (j 1 : ℕ) < 1 := (j 1).isLt
  have e : (Rect.unit (s := S8x1x576) ![n, 0, 0] S1x1x576.size inb).emb j = ix3 (⟨n, hn⟩ : Fin 8) (0 : Fin 1) (j 2 : Fin 576) := by
    funext a
    apply Fin.ext
    match a with
    | ⟨0, _⟩ => show n + 1 * (j 0 : ℕ) = n; omega
    | ⟨1, _⟩ => show 0 + 1 * (j 1 : ℕ) = 0; omega
    | ⟨2, _⟩ => show 0 + 1 * (j 2 : ℕ) = (j 2 : ℕ); omega
  rw [e, hw (inside n hn), load_eq x n hn]
  show codes cb (slab x n hn) h j = codes cb (slab x n hn) h (ix3 (0 : Fin 1) (0 : Fin 1) (j 2 : Fin 576))
  congr 1
  funext a
  apply Fin.ext
  match a with
  | ⟨0, _⟩ => show (j 0 : ℕ) = 0; omega
  | ⟨1, _⟩ => show (j 1 : ℕ) = 0; omega
  | ⟨2, _⟩ => rfl

/-- The store of image `n`'s quantized vectors is that part of the block's. -/
theorem image_piece (x : Vec F S8x256x576 .f32) (cb : Vec F S1024x256 .f32) (h : Vec F S1024x1 .f32)
    (cbb : Vec F S1024x256 .bf16) (n : ℕ)
    (inb : ∀ a, (![n, 0, 0] : Fin 3 → ℕ) a + S1x256x576.size a ≤ S8x256x576.size a) (w : S1x256x576.Idx → F .bf16)
    (hw : ∀ inb', w = image cb (load x n inb') h cbb) (j : S1x256x576.Idx) :
    w j
      = blockImage x cb h cbb ((Rect.unit (s := S8x256x576) ![n, 0, 0] S1x256x576.size inb).emb j) := by
  have hn : n < 8 := inb 0
  have h0 : (j 0 : ℕ) < 1 := (j 0).isLt
  have e : (Rect.unit (s := S8x256x576) ![n, 0, 0] S1x256x576.size inb).emb j = ix3 (⟨n, hn⟩ : Fin 8) (j 1 : Fin 256) (j 2 : Fin 576) := by
    funext a
    apply Fin.ext
    match a with
    | ⟨0, _⟩ => show n + 1 * (j 0 : ℕ) = n; omega
    | ⟨1, _⟩ => show 0 + 1 * (j 1 : ℕ) = (j 1 : ℕ); omega
    | ⟨2, _⟩ => show 0 + 1 * (j 2 : ℕ) = (j 2 : ℕ); omega
  rw [e, hw (inside n hn), load_eq x n hn]
  show image cb (slab x n hn) h cbb j = image cb (slab x n hn) h cbb (ix3 (0 : Fin 1) (j 1 : Fin 256) (j 2 : Fin 576))
  congr 1
  funext a
  apply Fin.ext
  match a with
  | ⟨0, _⟩ => show (j 0 : ℕ) = 0; omega
  | ⟨1, _⟩ => rfl
  | ⟨2, _⟩ => rfl

end Cert.Proof.Slab

end
-- ==== Proof.Block.lean ====
/-
  What one pass over the body leaves in the results and in the two scratch buffers. At the first grid point the scratch
  is filled from the codebook and the loss starts at zero; at the second the scratch and the loss are what the first left.
-/
module

public import proofs.«01_k».proof.Proof.Slab
public import Idealize.ShloMosaic.Lib.Pipeline.ValueKit
public import Idealize.ShloMosaic.Lib.Tactic

@[expose] public section

set_option maxRecDepth 16384

noncomputable section

namespace Cert.Proof.Block

open Cert.KernelIdeal Cert.KernelIdeal.Gen Cert.Proof.Slab
open Idealize.ShloMosaic Idealize.ShloMosaic.TcCoe Idealize.ShloMosaic.Tactic

variable {F : FTy → Type} [FloatOps F]

/-- The origin of an array with two axes. -/
theorem zero2 : (![0, 0] : Fin 2 → ℕ) = fun _ => 0 := funext fun a => by fin_cases a <;> rfl

/-- A load of a whole buffer, after a store of the whole buffer, reads what was stored. -/
theorem readCov_cons_whole {S : Shape} {e : EltTy} {sg : RefSig} {κ : Kind} {sp : Space} (v : View sg κ sp S e)
    {off : Fin S.rank → ℕ} (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  exact View.readCov_cons_unit_lit' v inb inb w L (congrFun h) (congrFun h)

section First

variable (c : Dev nD) (i : grid0.Coords) (arg1 : Memref sig .tc .vmem S8x256x576 .f32) (harg1 : arg1.IsWhole) (arg2 : Memref sig .tc .vmem S1024x256 .f32) (harg2 : arg2.IsWhole)
  (arg3 : Memref sig .tc .vmem S8x256x576 .bf16) (harg3 : arg3.IsWhole) (arg4 : Memref sig .tc .vmem S8x1x576 .i32) (harg4 : arg4.IsWhole)
  (arg5 : Memref sig .tc .vmem S1x1 .f32) (harg5 : arg5.IsWhole) (arg6 : Memref sig .tc .vmem S1024x1 .f32) (harg6 : arg6.IsWhole)
  (arg7 : Memref sig .tc .vmem S1024x256 .bf16) (harg7 : arg7.IsWhole) (hc0 : cond0_0 i) (hc1 : cond0_1 i)
  (x : Vec F S8x256x576 .f32) (cb : Vec F S1024x256 .f32)

/-- Result 1's block: the quantized vectors of the block's eight images. -/
theorem out_A_2 : out0_A_2 c i arg1 harg1 arg2 harg2 arg3 harg3 arg4 harg4 arg5 harg5 arg6 harg6 arg7 harg7 hc0 hc1 x cb = blockImage x cb (k0_pay6 cb) (k0_pay7 cb) := by
  unfold out0_A_2
  rw [View.read_writes_eq_canon _ _ _ (cover0_A_2 c i arg1 harg1 arg2 harg2 arg3 harg3 arg4 harg4 arg5 harg5 arg6 harg6 arg7 harg7 hc0 hc1 x cb)]
  have hcov := cover0_A_2 c i arg1 harg1 arg2 harg2 arg3 harg3 arg4 harg4 arg5 harg5 arg6 harg6 arg7 harg7 hc0 hc1 x cb
  revert hcov
  unfold kernelRun0_A
  dsimp only
  sl_unfold_words
  intro hcov
  funext y
  refine View.canon_apply_of_pieces _ _ ?_ y (hcov y)
  simp only [List.forall_mem_cons, List.not_mem_nil, false_implies, implies_true, and_true]
  refine ⟨?_, ?_, ?_, ?_, ?_, ?_, ?_, ?_⟩ <;>
  · intro j
    simp only [View.readAt_eq_ld, harg1.read_unread, harg2.read_unread, harg6.read_unread, harg7.read_unread,
      harg5.read_unread, View.ld_unit_zero (S := S1024x256) zero2, View.ld_unit_zero (S := S1024x1) zero2,
      View.ld_unit_zero (S := S1x1) zero2, readCov_cons_whole (S := S1024x256) _ zero2, readCov_cons_whole (S := S1024x1) _ zero2]
    exact image_piece x cb _ _ _ _ _ (fun _ => rfl) j

/-- Result 2's block: the codes of the block's eight images. -/
theorem out_A_3 : out0_A_3 c i arg1 harg1 arg2 harg2 arg3 harg3 arg4 harg4 arg5 harg5 arg6 harg6 arg7 harg7 hc0 hc1 x cb = blockCodes x cb (k0_pay6 cb) := by
  unfold out0_A_3
  rw [View.read_writes_eq_canon _ _ _ (cover0_A_3 c i arg1 harg1 arg2 harg2 arg3 harg3 arg4 harg4 arg5 harg5 arg6 harg6 arg7 harg7 hc0 hc1 x cb)]
  have hcov := cover0_A_3 c i arg1 harg1 arg2 harg2 arg3 harg3 arg4 harg4 arg5 harg5 arg6 harg6 arg7 harg7 hc0 hc1 x cb
  revert hcov
  unfold kernelRun0_A
  dsimp only
  sl_unfold_words
  intro hcov
  funext y
  refine View.canon_apply_of_pieces _ _ ?_ y (hcov y)
  simp only [List.forall_mem_cons, List.not_mem_nil, false_implies, implies_true, and_true]
  refine ⟨?_, ?_, ?_, ?_, ?_, ?_, ?_, ?_⟩ <;>
  · intro j
    simp only [View.readAt_eq_ld, harg1.read_unread, harg2.read_unread, harg6.read_unread, harg7.read_unread,
      harg5.read_unread, View.ld_unit_zero (S := S1024x256) zero2, View.ld_unit_zero (S := S1024x1) zero2,
      View.ld_unit_zero (S := S1x1) zero2, readCov_cons_whole (S := S1024x256) _ zero2, readCov_cons_whole (S := S1024x1) _ zero2]
    exact codes_piece x cb _ _ _ _ (fun _ => rfl) j

/-- The loss: eight steps, one for each image, from zero. -/
theorem out_A_4 : out0_A_4 c i arg1 harg1 arg2 harg2 arg3 harg3 arg4 harg4 arg5 harg5 arg6 harg6 arg7 harg7 hc0 hc1 x cb = blockLoss x cb (k0_pay6 cb) (k0_pay7 cb) (k0_pay8 (F := F)) 8 (le_refl 8) := by
  unfold out0_A_4
  rw [View.read_writes_eq_canon _ _ _ (cover0_A_4 c i arg1 harg1 arg2 harg2 arg3 harg3 arg4 harg4 arg5 harg5 arg6 harg6 arg7 harg7 hc0 hc1 x cb)]
  unfold kernelRun0_A
  dsimp only
  sl_unfold_words
  rw [View.canon_cons_unit_zero (S := S1x1) zero2]
  simp only [↓readCov_cons_whole (S := S1x1) _ zero2, View.readAt_eq_ld, harg1.read_unread, harg2.read_unread, harg6.read_unread, harg7.read_unread,
      harg5.read_unread, View.ld_unit_zero (S := S1024x256) zero2, View.ld_unit_zero (S := S1024x1) zero2,
      View.ld_unit_zero (S := S1x1) zero2, readCov_cons_whole (S := S1024x256) _ zero2, readCov_cons_whole (S := S1024x1) _ zero2]
  exact (blockLoss_eight x cb _ _ _).symm

/-- The scratch filled at the first point: half of each code vector’s squared length. -/
theorem scratch_0 : sout0_A_0 c i arg1 harg1 arg2 harg2 arg3 harg3 arg4 harg4 arg5 harg5 arg6 harg6 arg7 harg7 hc0 hc1 x cb = k0_pay6 cb := by
  unfold sout0_A_0
  rw [View.read_writes_eq_canon _ _ _ (scover0_A_0 c i arg1 harg1 arg2 harg2 arg3 harg3 arg4 harg4 arg5 harg5 arg6 harg6 arg7 harg7 hc0 hc1 x cb)]
  unfold kernelRun0_A
  dsimp only
  sl_unfold_words
  rw [View.canon_cons_unit_zero (S := S1024x1) zero2]
  simp only [View.readAt_eq_ld, harg1.read_unread, harg2.read_unread, harg6.read_unread, harg7.read_unread,
      harg5.read_unread, View.ld_unit_zero (S := S1024x256) zero2, View.ld_unit_zero (S := S1024x1) zero2,
      View.ld_unit_zero (S := S1x1) zero2, readCov_cons_whole (S := S1024x256) _ zero2, readCov_cons_whole (S := S1024x1) _ zero2]

/-- The scratch filled at the first point: the codebook. -/
theorem scratch_1 : sout0_A_1 c i arg1 harg1 arg2 harg2 arg3 harg3 arg4 harg4 arg5 harg5 arg6 harg6 arg7 harg7 hc0 hc1 x cb = k0_pay7 cb := by
  unfold sout0_A_1
  rw [View.read_writes_eq_canon _ _ _ (scover0_A_1 c i arg1 harg1 arg2 harg2 arg3 harg3 arg4 harg4 arg5 harg5 arg6 harg6 arg7 harg7 hc0 hc1 x cb)]
  unfold kernelRun0_A
  dsimp only
  sl_unfold_words
  rw [View.canon_cons_unit_zero (S := S1024x256) zero2]
  simp only [View.readAt_eq_ld, harg1.read_unread, harg2.read_unread, harg6.read_unread, harg7.read_unread,
      harg5.read_unread, View.ld_unit_zero (S := S1024x256) zero2, View.ld_unit_zero (S := S1024x1) zero2,
      View.ld_unit_zero (S := S1x1) zero2, readCov_cons_whole (S := S1024x256) _ zero2, readCov_cons_whole (S := S1024x1) _ zero2]

end First

section Second

variable (c : Dev nD) (i : grid0.Coords) (arg1 : Memref sig .tc .vmem S8x256x576 .f32) (harg1 : arg1.IsWhole) (arg2 : Memref sig .tc .vmem S1024x256 .f32) (harg2 : arg2.IsWhole)
  (arg3 : Memref sig .tc .vmem S8x256x576 .bf16) (harg3 : arg3.IsWhole) (arg4 : Memref sig .tc .vmem S8x1x576 .i32) (harg4 : arg4.IsWhole)
  (arg5 : Memref sig .tc .vmem S1x1 .f32) (harg5 : arg5.IsWhole) (arg6 : Memref sig .tc .vmem S1024x1 .f32) (harg6 : arg6.IsWhole)
  (arg7 : Memref sig .tc .vmem S1024x256 .bf16) (harg7 : arg7.IsWhole) (hc0 : ¬cond0_0 i) (hc1 : ¬cond0_1 i)
  (x : Vec F S8x256x576 .f32) (cb : Vec F S1024x256 .f32) (prev : Vec F S1x1 .f32) (h : Vec F S1024x1 .f32)
  (cbb : Vec F S1024x256 .bf16)

/-- Result 1's block: the quantized vectors of the block's eight images. -/
theorem out_B_2 : out0_B_2 c i arg1 harg1 arg2 harg2 arg3 harg3 arg4 harg4 arg5 harg5 arg6 harg6 arg7 harg7 hc0 hc1 x cb prev h cbb = blockImage x cb h cbb := by
  unfold out0_B_2
  rw [View.read_writes_eq_canon _ _ _ (cover0_B_2 c i arg1 harg1 arg2 harg2 arg3 harg3 arg4 harg4 arg5 harg5 arg6 harg6 arg7 harg7 hc0 hc1 x cb prev h cbb)]
  have hcov := cover0_B_2 c i arg1 harg1 arg2 harg2 arg3 harg3 arg4 harg4 arg5 harg5 arg6 harg6 arg7 harg7 hc0 hc1 x cb prev h cbb
  revert hcov
  unfold kernelRun0_B
  dsimp only
  sl_unfold_words
  intro hcov
  funext y
  refine View.canon_apply_of_pieces _ _ ?_ y (hcov y)
  simp only [List.forall_mem_cons, List.not_mem_nil, false_implies, implies_true, and_true]
  refine ⟨?_, ?_, ?_, ?_, ?_, ?_, ?_, ?_⟩ <;>
  · intro j
    simp only [View.readAt_eq_ld, harg1.read_unread, harg2.read_unread, harg6.read_unread, harg7.read_unread,
      harg5.read_unread, View.ld_unit_zero (S := S1024x256) zero2, View.ld_unit_zero (S := S1024x1) zero2,
      View.ld_unit_zero (S := S1x1) zero2, readCov_cons_whole (S := S1024x256) _ zero2, readCov_cons_whole (S := S1024x1) _ zero2]
    exact image_piece x cb _ _ _ _ _ (fun _ => rfl) j

/-- Result 2's block: the codes of the block's eight images. -/
theorem out_B_3 : out0_B_3 c i arg1 harg1 arg2 harg2 arg3 harg3 arg4 harg4 arg5 harg5 arg6 harg6 arg7 harg7 hc0 hc1 x cb prev h cbb = blockCodes x cb h := by
  unfold out0_B_3
  rw [View.read_writes_eq_canon _ _ _ (cover0_B_3 c i arg1 harg1 arg2 harg2 arg3 harg3 arg4 harg4 arg5 harg5 arg6 harg6 arg7 harg7 hc0 hc1 x cb prev h cbb)]
  have hcov := cover0_B_3 c i arg1 harg1 arg2 harg2 arg3 harg3 arg4 harg4 arg5 harg5 arg6 harg6 arg7 harg7 hc0 hc1 x cb prev h cbb
  revert hcov
  unfold kernelRun0_B
  dsimp only
  sl_unfold_words
  intro hcov
  funext y
  refine View.canon_apply_of_pieces _ _ ?_ y (hcov y)
  simp only [List.forall_mem_cons, List.not_mem_nil, false_implies, implies_true, and_true]
  refine ⟨?_, ?_, ?_, ?_, ?_, ?_, ?_, ?_⟩ <;>
  · intro j
    simp only [View.readAt_eq_ld, harg1.read_unread, harg2.read_unread, harg6.read_unread, harg7.read_unread,
      harg5.read_unread, View.ld_unit_zero (S := S1024x256) zero2, View.ld_unit_zero (S := S1024x1) zero2,
      View.ld_unit_zero (S := S1x1) zero2, readCov_cons_whole (S := S1024x256) _ zero2, readCov_cons_whole (S := S1024x1) _ zero2]
    exact codes_piece x cb _ _ _ _ (fun _ => rfl) j

/-- The loss: eight steps, one for each image, from what it held. -/
theorem out_B_4 : out0_B_4 c i arg1 harg1 arg2 harg2 arg3 harg3 arg4 harg4 arg5 harg5 arg6 harg6 arg7 harg7 hc0 hc1 x cb prev h cbb = blockLoss x cb h cbb prev 8 (le_refl 8) := by
  unfold out0_B_4
  rw [View.read_writes_eq_canon _ _ _ (cover0_B_4 c i arg1 harg1 arg2 harg2 arg3 harg3 arg4 harg4 arg5 harg5 arg6 harg6 arg7 harg7 hc0 hc1 x cb prev h cbb)]
  unfold kernelRun0_B
  dsimp only
  sl_unfold_words
  rw [View.canon_cons_unit_zero (S := S1x1) zero2]
  simp only [↓readCov_cons_whole (S := S1x1) _ zero2, View.readAt_eq_ld, harg1.read_unread, harg2.read_unread, harg6.read_unread, harg7.read_unread,
      harg5.read_unread, View.ld_unit_zero (S := S1024x256) zero2, View.ld_unit_zero (S := S1024x1) zero2,
      View.ld_unit_zero (S := S1x1) zero2, readCov_cons_whole (S := S1024x256) _ zero2, readCov_cons_whole (S := S1024x1) _ zero2]
  exact (blockLoss_eight x cb _ _ _).symm

end Second

end Cert.Proof.Block

end
-- ==== Proof.Arrays.lean ====
/-
  What the three result arrays hold after the pallas_call, as functions of the images (the first argument in its three
  axes: image, channel, position) and the codebook.
-/
module

public import proofs.«01_k».proof.Proof.Block
public import Idealize.ShloMosaic.Lib.Pipeline.ValueKit
public import Idealize.ShloMosaic.Lib.StableHlo.Run
public import Idealize.ShloMosaic.Lib.Claim

@[expose] public section

set_option maxRecDepth 16384

noncomputable section

namespace Cert.Proof.Arrays

open Cert.KernelIdeal Cert.KernelIdeal.Gen Cert.Proof.Slab Cert.Proof.Block
open Idealize.ShloMosaic Idealize.ShloMosaic.TcCoe Idealize.ShloMosaic.ValueIdx Idealize.SL.Sem
open Idealize.ShloMosaic.Pipeline (Dat)

variable {F : FTy → Type} [FloatOps F]

/-- The images with their two position axes made one. -/
abbrev flat (x : Vec F S16x256x24x24 .f32) : Vec F S16x256x576 .f32 := shapeCast S16x256x576 x shapeCasts_S16x256x24x24_S16x256x576

/-- Image `b`, as a block of one image. -/
def img (X : Vec F S16x256x576 .f32) (b : ℕ) (hb : b < 16) : Vec F S1x256x576 .f32 :=
  fun j => X (ValueIdx.ix3 (⟨b, hb⟩ : Fin 16) (j 1 : Fin 256) (j 2 : Fin 576))

/-- Half of each code vector's squared length. -/
abbrev half (cb : Vec F S1024x256 .f32) : Vec F S1024x1 .f32 := k0_pay6 cb

/-- The codebook the quantized vectors are read from. -/
abbrev table (cb : Vec F S1024x256 .f32) : Vec F S1024x256 .bf16 := k0_pay7 cb

/-- The quantized images. -/
def images (X : Vec F S16x256x576 .f32) (cb : Vec F S1024x256 .f32) : Vec F S16x256x576 .bf16 :=
  fun j => image cb (img X (j 0).val (j 0).isLt) (half cb) (table cb) (ValueIdx.ix3 (0 : Fin 1) (j 1 : Fin 256) (j 2 : Fin 576))

/-- The codes of all images. -/
def allCodes (X : Vec F S16x256x576 .f32) (cb : Vec F S1024x256 .f32) : Vec F S16x1x576 .i32 :=
  fun j => codes cb (img X (j 0).val (j 0).isLt) (half cb) (ValueIdx.ix3 (0 : Fin 1) (j 1 : Fin 1) (j 2 : Fin 576))

/-- The loss after the first `n` images, from zero. -/
def lossAfter (X : Vec F S16x256x576 .f32) (cb : Vec F S1024x256 .f32) : (n : ℕ) → n ≤ 16 → Vec F S1x1 .f32
  | 0, _ => k0_pay8 (F := F)
  | n + 1, hn => lossStep cb (img X n hn) (half cb) (table cb) (lossAfter X cb n (Nat.le_of_succ_le hn))

variable (m : (ℓ : Loc nD τ sig) → Buf (Elt F) ℓ) (ρ : Dev nD → PrngReg)

/-- The images the pallas_call reads, -/
abbrev X (c : Dev nD) : Vec F S16x256x576 .f32 := flat (m ((c.tc : Thread nD τ).loc main_arg0))
/-- and the codebook. -/
abbrev cbk (c : Dev nD) : Vec F S1024x256 .f32 := m ((c.tc : Thread nD τ).loc main_arg1)

/-- The region finds the reshaped images in the first operand's buffer. -/
theorem entry_images (c : Dev nD) : V m c main_v0 = X m c := by
  unfold V V0
  simp only [hostOps0, List.flatten_cons, List.flatten_nil, List.append_nil]
  after_results
  rfl

/-- Window 0's block at point `t` is the eight images from image `8 t`. -/
theorem block_images (c : Dev nD) (t : Fin cfg0.N) (n : ℕ) (hn : n < 8) (hb : 8 * t.val + n < 16) :
    slab (iblk m c 0 t : Vec F S8x256x576 .f32) n hn = img (X m c) (8 * t.val + n) hb := by
  have hi : win0_0.index t 0 = t.val ∧ win0_0.index t 1 = 0 ∧ win0_0.index t 2 = 0 := by
    rcases fin_N0 t with rfl | rfl <;> decide
  funext j
  unfold iblk slab img
  rw [View.read_apply]
  show V m c main_v0 _ = _
  rw [entry_images]
  congr 1
  funext a
  apply Fin.ext
  match a with
  | ⟨0, _⟩ => show win0_0.index t 0 * 8 + 1 * n = 8 * t.val + n; rw [hi.1]; omega
  | ⟨1, _⟩ => show win0_0.index t 1 * 256 + 1 * (j 1).val = (j 1).val; rw [hi.2.1]; omega
  | ⟨2, _⟩ => show win0_0.index t 2 * 576 + 1 * (j 2).val = (j 2).val; rw [hi.2.2]; omega

/-- Window 1's block is the codebook, at every point. -/
theorem block_codebook (c : Dev nD) (t : Fin cfg0.N) : (iblk m c 1 t : Vec F S1024x256 .f32) = cbk m c := by
  have hi : win0_1.index t 0 = 0 ∧ win0_1.index t 1 = 0 := by
    rcases fin_N0 t with rfl | rfl <;> decide
  funext j
  unfold iblk
  rw [View.read_apply]
  show V m c main_arg1 _ = _
  rw [V_main_arg1]
  congr 1
  funext a
  apply Fin.ext
  match a with
  | ⟨0, _⟩ => show win0_1.index t 0 * 1024 + 1 * (j 0).val = (j 0).val; rw [hi.1]; omega
  | ⟨1, _⟩ => show win0_1.index t 1 * 256 + 1 * (j 1).val = (j 1).val; rw [hi.2]; omega

/-- The loss after the first `n` images of point `t`'s block, from the loss after the points before. -/
theorem loss_block (c : Dev nD) (t : Fin cfg0.N) (n : ℕ) (hn : n ≤ 8) (hb : 8 * t.val + n ≤ 16) :
    blockLoss (iblk m c 0 t) (cbk m c) (half (cbk m c)) (table (cbk m c))
        (lossAfter (X m c) (cbk m c) (8 * t.val) (Nat.le_of_add_right_le hb)) n hn
      = lossAfter (X m c) (cbk m c) (8 * t.val + n) hb := by
  induction n with
  | zero => rfl
  | succ n ih =>
    show lossStep _ (slab _ n hn) _ _ (blockLoss _ _ _ _ _ n _) = lossStep _ (img _ (8 * t.val + n) hb) _ _ (lossAfter _ _ (8 * t.val + n) _)
    rw [ih (Nat.le_of_succ_le hn) (Nat.le_of_succ_le hb), block_images m c t n hn hb]

/-- What the results' and the scratch's buffers hold after the first point. -/
theorem after_first (c : Dev nD) (h : 0 < cfg0.N) : outsAt0 m c 0 h
    = (blockImage (iblk m c 0 t0_0) (cbk m c) (half (cbk m c)) (table (cbk m c)),
       blockCodes (iblk m c 0 t0_0) (cbk m c) (half (cbk m c)),
       lossAfter (X m c) (cbk m c) 8 (by decide), half (cbk m c), table (cbk m c)) := by
  have e := outsAt0_A m c t0_0 rfl rfl
  rw [out_A_2, out_A_3, out_A_4, scratch_0, scratch_1, block_codebook] at e
  refine e.trans ?_
  have hl : blockLoss (iblk m c 0 t0_0) (cbk m c) (half (cbk m c)) (table (cbk m c)) (k0_pay8 (F := F)) 8 (le_refl 8)
      = lossAfter (X m c) (cbk m c) 8 (by decide) := loss_block m c t0_0 8 (le_refl 8) (by decide)
  rw [← hl]

/-- What the results' buffers hold after the second. -/
theorem after_second (c : Dev nD) (h : 1 < cfg0.N) : outsAt0 m c 1 h
    = (blockImage (iblk m c 0 t0_1) (cbk m c) (half (cbk m c)) (table (cbk m c)),
       blockCodes (iblk m c 0 t0_1) (cbk m c) (half (cbk m c)),
       lossAfter (X m c) (cbk m c) 16 (by decide), half (cbk m c), table (cbk m c)) := by
  have e := outsAt0_B m c t0_1 (by decide) (by decide)
  rw [out_B_2, out_B_3, out_B_4, block_codebook] at e
  refine e.trans ?_
  have hf := after_first m c (by decide)
  have hf' : outsAt0 m c (t0_1.val - 1) (Nat.lt_of_le_of_lt (Nat.sub_le _ _) t0_1.isLt) = _ := hf
  rw [hf']
  dsimp only [sout0_B_0, sout0_B_1]
  have hl : blockLoss (iblk m c 0 t0_1) (cbk m c) (half (cbk m c)) (table (cbk m c)) (lossAfter (X m c) (cbk m c) 8 (by decide)) 8 (le_refl 8)
      = lossAfter (X m c) (cbk m c) 16 (by decide) := loss_block m c t0_1 8 (le_refl 8) (by decide)
  rw [← hl]

/-- At either point the first two results' buffers hold the block's quantized images and codes. -/
theorem after_point (c : Dev nD) (t : Fin cfg0.N) :
    (outsAt0 m c t.val t.isLt).1 = blockImage (iblk m c 0 t) (cbk m c) (half (cbk m c)) (table (cbk m c))
    ∧ (outsAt0 m c t.val t.isLt).2.1 = blockCodes (iblk m c 0 t) (cbk m c) (half (cbk m c)) := by
  rcases fin_N0 t with rfl | rfl
  · exact ⟨congrArg Prod.fst (after_first m c (by decide)), congrArg (·.2.1) (after_first m c (by decide))⟩
  · exact ⟨congrArg Prod.fst (after_second m c (by decide)), congrArg (·.2.1) (after_second m c (by decide))⟩

/-- The first result array holds the quantized images. -/
theorem array_images (c : Dev nD) : (dats m 0 c).arrAt 2 cfg0.N = images (X m c) (cbk m c) := by
  refine (dats m 0 c).arrAt_eq_of_covers 2 _ (by decide +kernel) fun t hf y => ?_
  blk_simp
  rw [after0_2, (after_point m c t).1]
  have hi : win0_2.index t 0 = t.val ∧ win0_2.index t 1 = 0 ∧ win0_2.index t 2 = 0 := by
    rcases fin_N0 t with rfl | rfl <;> decide
  have ht : t.val < 2 := lt_of_lt_of_eq t.isLt (show cfg0.N = 2 from N_0)
  have hy0 : (y 0 : ℕ) < 8 := (y 0).isLt
  have hb : 8 * t.val + (y 0 : ℕ) < 16 := by omega
  have e : (win0_2.blk t).view.emb y = ValueIdx.ix3 (⟨8 * t.val + (y 0 : ℕ), hb⟩ : Fin 16) (y 1 : Fin 256) (y 2 : Fin 576) := by
    funext a
    apply Fin.ext
    match a with
    | ⟨0, _⟩ => show win0_2.index t 0 * 8 + 1 * (y 0).val = 8 * t.val + (y 0).val; rw [hi.1]; omega
    | ⟨1, _⟩ => show win0_2.index t 1 * 256 + 1 * (y 1).val = (y 1).val; rw [hi.2.1]; omega
    | ⟨2, _⟩ => show win0_2.index t 2 * 576 + 1 * (y 2).val = (y 2).val; rw [hi.2.2]; omega
  refine Eq.trans ?_ (congrArg _ e.symm)
  show image (cbk m c) (slab (iblk m c 0 t) (y 0 : ℕ) hy0) _ _ _ = image (cbk m c) (img (X m c) (8 * t.val + (y 0 : ℕ)) hb) _ _ _
  rw [block_images m c t _ hy0 hb]

/-- The second result array holds the codes. -/
theorem array_codes (c : Dev nD) : (dats m 0 c).arrAt 3 cfg0.N = allCodes (X m c) (cbk m c) := by
  refine (dats m 0 c).arrAt_eq_of_covers 3 _ (by decide +kernel) fun t hf y => ?_
  blk_simp
  rw [after0_3, (after_point m c t).2]
  have hi : win0_3.index t 0 = t.val ∧ win0_3.index t 1 = 0 ∧ win0_3.index t 2 = 0 := by
    rcases fin_N0 t with rfl | rfl <;> decide
  have ht : t.val < 2 := lt_of_lt_of_eq t.isLt (show cfg0.N = 2 from N_0)
  have hy0 : (y 0 : ℕ) < 8 := (y 0).isLt
  have hb : 8 * t.val + (y 0 : ℕ) < 16 := by omega
  have e : (win0_3.blk t).view.emb y = ValueIdx.ix3 (⟨8 * t.val + (y 0 : ℕ), hb⟩ : Fin 16) (y 1 : Fin 1) (y 2 : Fin 576) := by
    funext a
    apply Fin.ext
    match a with
    | ⟨0, _⟩ => show win0_3.index t 0 * 8 + 1 * (y 0).val = 8 * t.val + (y 0).val; rw [hi.1]; omega
    | ⟨1, _⟩ => show win0_3.index t 1 * 1 + 1 * (y 1).val = (y 1).val; rw [hi.2.1]; omega
    | ⟨2, _⟩ => show win0_3.index t 2 * 576 + 1 * (y 2).val = (y 2).val; rw [hi.2.2]; omega
  refine Eq.trans ?_ (congrArg _ e.symm)
  show codes (cbk m c) (slab (iblk m c 0 t) (y 0 : ℕ) hy0) _ _ = codes (cbk m c) (img (X m c) (8 * t.val + (y 0 : ℕ)) hb) _ _
  rw [block_images m c t _ hy0 hb]

/-- The third result array holds the loss after all sixteen images. -/
theorem array_loss (c : Dev nD) : (dats m 0 c).arrAt 4 cfg0.N = lossAfter (X m c) (cbk m c) 16 (by decide) := by
  refine (dats m 0 c).arrAt_eq_of_covers 4 _ (by decide +kernel) fun t hf y => ?_
  blk_simp
  rw [after0_4]
  have ht : t = t0_1 := by
    have := (flush0_4 t).mp hf
    rcases fin_N0 t with rfl | rfl
    · exact absurd this (by decide)
    · rfl
  subst ht
  rw [show outsAt0 m c t0_1.val t0_1.isLt = _ from after_second m c (by decide)]
  have hi : win0_4.index t0_1 0 = 0 ∧ win0_4.index t0_1 1 = 0 := by decide
  have e : (win0_4.blk t0_1).view.emb y = (y : S1x1.Idx) := by
    funext a
    apply Fin.ext
    match a with
    | ⟨0, _⟩ => show win0_4.index t0_1 0 * 1 + 1 * (y 0).val = (y 0).val; rw [hi.1]; omega
    | ⟨1, _⟩ => show win0_4.index t0_1 1 * 1 + 1 * (y 1).val = (y 1).val; rw [hi.2]; omega
  exact congrArg (lossAfter (X m c) (cbk m c) 16 (by decide)) e.symm

/-- The operations after the pallas_call, from any contents: the quantized images widened and put back in four axes, -/
theorem tail_images (W : Valuation τ sig (Elt F)) : StableHlo.after hostOps1 W (main_v3 : DevRef τ sig)
    = shapeCast S16x256x24x24 (extf .f32 (W (main_v1_0 : DevRef τ sig) : FVec F S16x256x576 .bf16) bitsLt_bf16_f32 : FVec F S16x256x576 .f32) shapeCasts_S16x256x576_S16x256x24x24 := by
  after_results
  rfl

/-- the codes in one axis, -/
theorem tail_codes (W : Valuation τ sig (Elt F)) : StableHlo.after hostOps1 W (main_v4 : DevRef τ sig)
    = shapeCast S9216 (W (main_v1_1 : DevRef τ sig) : IVec S16x1x576 32) shapeCasts_S16x1x576_S9216 := by
  after_results
  rfl

/-- and the loss divided by the number of entries. -/
theorem tail_loss (W : Valuation τ sig (Elt F)) : StableHlo.after hostOps1 W (main_v6 : DevRef τ sig)
    = (Host.divf (shapeCast S_ (W (main_v1_2 : DevRef τ sig) : FVec F S1x1 .f32) shapeCasts_S1x1_S_ : FVec F S_ .f32) (constant S_ .f32 0x4A100000#32) : FVec F S_ .f32) := by
  after_results
  rfl

/-- Each result array is a window's, and no two windows share one. -/
theorem arrays_distinct : Function.Injective (Pipeline.arrRef spec0) := by decide

/-- The kernel's run: the three results, and the arguments as they were. -/
theorem run : θ_run defs (onTc (τ := τ) (main (F := F))) ⟨m, fun _ => 0, ρ⟩ fun r => ∀ c : Dev nD,
      r.2.mem ((c.tc : Thread nD τ).loc main_v3)
          = shapeCast S16x256x24x24 (extf .f32 (images (X m c) (cbk m c)) bitsLt_bf16_f32 : FVec F S16x256x576 .f32) shapeCasts_S16x256x576_S16x256x24x24
      ∧ r.2.mem ((c.tc : Thread nD τ).loc main_v4) = shapeCast S9216 (allCodes (X m c) (cbk m c)) shapeCasts_S16x1x576_S9216
      ∧ r.2.mem ((c.tc : Thread nD τ).loc main_v6)
          = (Host.divf (shapeCast S_ (lossAfter (X m c) (cbk m c) 16 (by decide)) shapeCasts_S1x1_S_ : FVec F S_ .f32) (constant S_ .f32 0x4A100000#32) : FVec F S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from (run_main m ρ) & (unchanged m ρ)
  · unfold Pipeline.afterTail₀
    rw [List.flatten_cons, List.flatten_nil, List.append_nil]
    refine (tail_images _).trans ?_
    rw [← array_images]
    exact congrArg (fun v => shapeCast S16x256x24x24 (extf .f32 v bitsLt_bf16_f32 : FVec F S16x256x576 .f32) shapeCasts_S16x256x576_S16x256x24x24)
      (Pipeline.withArrays_arr spec0 arrays_distinct c (V0 m c) (fun w => (dats m 0 c).arrAt w cfg0.N) 2)
  · unfold Pipeline.afterTail₀
    rw [List.flatten_cons, List.flatten_nil, List.append_nil]
    refine (tail_codes _).trans ?_
    rw [← array_codes]
    exact congrArg (fun v => shapeCast S9216 v shapeCasts_S16x1x576_S9216)
      (Pipeline.withArrays_arr spec0 arrays_distinct c (V0 m c) (fun w => (dats m 0 c).arrAt w cfg0.N) 3)
  · unfold Pipeline.afterTail₀
    rw [List.flatten_cons, List.flatten_nil, List.append_nil]
    refine (tail_loss _).trans ?_
    rw [← array_loss]
    exact congrArg (fun v => (Host.divf (shapeCast S_ v shapeCasts_S1x1_S_ : FVec F S_ .f32) (constant S_ .f32 0x4A100000#32) : FVec F S_ .f32))
      (Pipeline.withArrays_arr spec0 arrays_distinct c (V0 m c) (fun w => (dats m 0 c).arrAt w cfg0.N) 4)

end Cert.Proof.Arrays

end
-- ==== Proof.RefRun.lean ====
/-
  The run of the REFERENCE program `Cert.ReferenceIdeal`: a straight line of host operations, the two
  outlined functions (the argmin of the rows and the row lookup) inlined. Its results are named as functions of
  the two arguments: `dist` the squared distances, `code` the index of the nearest code, `take` the lookup of
  rows, `quant` the quantized images, `loss` the mean square of the error.
-/
module

public import Idealize.ShloMosaic.Lib.StableHlo.Run
public import Idealize.ShloMosaic.Lib.Quiescent
public import proofs.«01_k».proof.ReferenceIdeal
public import proofs.«01_k».proof.Proof.Gen.ReferenceIdeal

@[expose] public section

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## The values, as functions of the arguments -/

/-- The pixels as rows: image `b`'s pixel `p` is row `576 b + p`, its channels the columns. -/
def rows (x : FVec F S16x256x24x24 .f32) : FVec F S9216x256 .f32 :=
  shapeCast S9216x256 (transpose S16x24x24x256 [0, 2, 3, 1] x transposes_S16x256x24x24_S16x24x24x256_0_2_3_1)
    shapeCasts_S16x24x24x256_S9216x256

/-- The squared distances of the rows from the codes, as the reference computes them. -/
def dist (x : FVec F S16x256x24x24 .f32) (cb : FVec F S1024x256 .f32) : FVec F S9216x1024 .f32 :=
  subf
    (addf
      (broadcastInDim S9216x1024 ![0, 1] bcast_S9216x1_S9216x1024_0_1
        (broadcastInDim S9216x1 ![0] bcast_S9216_S9216x1_0
          (Host.reduceAdd (mulf (rows x) (rows x)) (constant S_ .f32 0x00000000#32) reducesTo_S9216x256_S9216_d1 h_S_)))
      (broadcastInDim S9216x1024 ![0, 1] bcast_S1x1024_S9216x1024_0_1
        (broadcastInDim S1x1024 ![1] bcast_S1024_S1x1024_1
          (Host.reduceAdd (mulf cb cb) (constant S_ .f32 0x00000000#32) reducesTo_S1024x256_S1024_d1 h_S_))))
    (mulf (broadcastInDim S9216x1024 ![] bcast_S_S9216x1024 (constant S_ .f32 0x40000000#32))
      (Host.dotGeneral dot_S9216x256_S256x1024_S9216x1024_1_0_0_1_n_n none (rows x)
        (transpose S256x1024 [1, 0] cb transposes_S1024x256_S256x1024_1_0)))

/-- The index of the least entry of each row. -/
def code (d : FVec F S9216x1024 .f32) : IVec S9216 32 :=
  fun j => (Host.argReduce reducer_argmin_f32_i32 d (iotaInDim S9216x1024 32 1) (constant S_ .f32 0x7F800000#32)
    (constantI S_ 32 0#32) reducesTo_S9216x1024_S9216_d1 h_S_ j).2

/-- The indices with a negative one moved up by the number of codes, as a column. -/
def wrapped (idx : IVec S9216 32) : IVec S9216x1 32 :=
  broadcastInDim S9216x1 ![0] bcast_S9216_S9216x1_0
    (select (cmpi .slt idx (broadcastInDim S9216 ![] bcast_S_S9216 (constantI S_ 32 0#32)))
      (addi idx (broadcastInDim S9216 ![] bcast_S_S9216 (constantI S_ 32 1024#32))) idx)

/-- The rows of the codebook at the indices; a row whose index lies outside it is the filler. -/
def take (cb : FVec F S1024x256 .f32) (idx : IVec S9216 32) : FVec F S9216x256 .f32 :=
  select
    (broadcastInDim S9216x256 ![0] bcast_S9216_S9216x256_0
      (Host.reduce IntOp.andi
        (andi (cmpi .sge (wrapped idx) (broadcastInDim S9216x1 ![] bcast_S_S9216x1 (constantI S_ 32 0#32)))
          (cmpi .sle (wrapped idx) (broadcastInDim S9216x1 ![0, 1] bcast_S1x1_S9216x1_0_1
            (broadcastInDim S1x1 ![1] bcast_S1_S1x1_1 (constantI S1 32 1023#32)))))
        (constantI S_ 1 1#1) reducesTo_S9216x1_S9216_d1 h_S_))
    (Host.gather gather_S1024x256_S9216x1_S9216x256_1_0_n_n_0_1_1256 cb (wrapped idx))
    (broadcastInDim S9216x256 ![] bcast_S_S9216x256 (constant S_ .f32 0x7FC00000#32))

/-- The looked-up rows as images. -/
def quant (t : FVec F S9216x256 .f32) : FVec F S16x256x24x24 .f32 :=
  transpose S16x256x24x24 [0, 3, 1, 2] (shapeCast S16x24x24x256 t shapeCasts_S9216x256_S16x24x24x256)
    transposes_S16x24x24x256_S16x256x24x24_0_3_1_2

/-- The mean of the squared differences of two batches of images. -/
def loss (x q : FVec F S16x256x24x24 .f32) : FVec F S_ .f32 :=
  Host.divf
    (Host.reduceAdd (mulf (subf x q) (subf x q)) (constant S_ .f32 0x00000000#32) reducesTo_S16x256x24x24_S_d0_1_2_3 h_S_)
    (constant S_ .f32 0x4A100000#32)

/-! ## The run -/

/-- The operations of @main, in order. -/
abbrev ops : List (HloOp τ sig (Elt F)) :=
  [ unary main_arg0 main_v0 ((transpose S16x24x24x256 [0, 2, 3, 1] · transposes_S16x256x24x24_S16x24x24x256_0_2_3_1)),
    reshape main_v0 main_v1 (rfl : (.f32 : EltTy) = .f32) shapeCasts_S16x24x24x256_S9216x256,
    binary main_v1 main_v1 main_v2 (mulf),
    nullary main_cst (constant S_ .f32 0x00000000#32),
    binary main_v2 main_cst main_v3 ((fun x v => Host.reduceAdd x v reducesTo_S9216x256_S9216_d1 h_S_)),
    unary main_v3 main_v4 (broadcastInDim S9216x1 ![0] bcast_S9216_S9216x1_0),
    binary main_arg1 main_arg1 main_v5 (mulf),
    nullary main_cst_0 (constant S_ .f32 0x00000000#32),
    binary main_v5 main_cst_0 main_v6 ((fun x v => Host.reduceAdd x v reducesTo_S1024x256_S1024_d1 h_S_)),
    unary main_arg1 main_v7 ((transpose S256x1024 [1, 0] · transposes_S1024x256_S256x1024_1_0)),
    binary main_v1 main_v7 main_v8 ((fun l r => Host.dotGeneral dot_S9216x256_S256x1024_S9216x1024_1_0_0_1_n_n none l r)),
    unary main_v6 main_v9 (broadcastInDim S1x1024 ![1] bcast_S1024_S1x1024_1),
    unary main_v4 main_v10 (broadcastInDim S9216x1024 ![0, 1] bcast_S9216x1_S9216x1024_0_1),
    unary main_v9 main_v11 (broadcastInDim S9216x1024 ![0, 1] bcast_S1x1024_S9216x1024_0_1),
    binary main_v10 main_v11 main_v12 (addf),
    nullary main_cst_1 (constant S_ .f32 0x40000000#32),
    unary main_cst_1 main_v13 (broadcastInDim S9216x1024 ![] bcast_S_S9216x1024),
    binary main_v13 main_v8 main_v14 (mulf),
    binary main_v12 main_v14 main_v15 (subf),
    nullary main_call0_v0 (iotaInDim S9216x1024 32 1),
    nullary main_call0_cst (constant S_ .f32 0x7F800000#32),
    nullary main_call0_c (constantI S_ 32 0#32),
    quaternary main_v15 main_call0_v0 main_call0_cst main_call0_c main_call0_v1_0 (fun x y u v j => (Host.argReduce reducer_argmin_f32_i32 x y u v reducesTo_S9216x1024_S9216_d1 h_S_ j).1),
    quaternary main_v15 main_call0_v0 main_call0_cst main_call0_c main_v16 (fun x y u v j => (Host.argReduce reducer_argmin_f32_i32 x y u v reducesTo_S9216x1024_S9216_d1 h_S_ j).2),
    nullary main_call1_c (constantI S_ 32 0#32),
    unary main_call1_c main_call1_v0 (broadcastInDim S9216 ![] bcast_S_S9216),
    binary main_v16 main_call1_v0 main_call1_v1 (cmpi .slt),
    nullary main_call1_c_0 (constantI S_ 32 1024#32),
    unary main_call1_c_0 main_call1_v2 (broadcastInDim S9216 ![] bcast_S_S9216),
    binary main_v16 main_call1_v2 main_call1_v3 addi,
    ternary main_call1_v1 main_call1_v3 main_v16 main_call1_v4 select,
    unary main_call1_v4 main_call1_v5 (broadcastInDim S9216x1 ![0] bcast_S9216_S9216x1_0),
    nullary main_call1_c_1 (constantI S1 32 1023#32),
    nullary main_call1_c_2 (constantI S_ 32 0#32),
    unary main_call1_c_2 main_call1_v6 (broadcastInDim S9216x1 ![] bcast_S_S9216x1),
    binary main_call1_v5 main_call1_v6 main_call1_v7 (cmpi .sge),
    unary main_call1_c_1 main_call1_v8 (broadcastInDim S1x1 ![1] bcast_S1_S1x1_1),
    unary main_call1_v8 main_call1_v9 (broadcastInDim S9216x1 ![0, 1] bcast_S1x1_S9216x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S9216x1_S9216_d1 h_S_),
    binary main_arg1 main_call1_v5 main_call1_v13 (fun x i => Host.gather gather_S1024x256_S9216x1_S9216x256_1_0_n_n_0_1_1256 x i),
    unary main_call1_v12 main_call1_v14 (broadcastInDim S9216x256 ![0] bcast_S9216_S9216x256_0),
    nullary main_call1_cst (constant S_ .f32 0x7FC00000#32),
    unary main_call1_cst main_call1_v15 (broadcastInDim S9216x256 ![] bcast_S_S9216x256),
    ternary main_call1_v14 main_call1_v13 main_call1_v15 main_v17 select,
    reshape main_v17 main_v18 (rfl : (.f32 : EltTy) = .f32) shapeCasts_S9216x256_S16x24x24x256,
    unary main_v18 main_v19 ((transpose S16x256x24x24 [0, 3, 1, 2] · transposes_S16x24x24x256_S16x256x24x24_0_3_1_2)),
    binary main_arg0 main_v19 main_v20 (subf),
    binary main_v20 main_v20 main_v21 (mulf),
    nullary main_cst_2 (constant S_ .f32 0x00000000#32),
    binary main_v21 main_cst_2 main_v22 ((fun x v => Host.reduceAdd x v reducesTo_S16x256x24x24_S_d0_1_2_3 h_S_)),
    nullary main_cst_3 (constant S_ .f32 0x4A100000#32),
    binary main_v22 main_cst_3 main_v23 (Host.divf) ]

set_option maxRecDepth 65536 in
/-- @main is that straight line. -/
theorem main_eq (c : Dev nD) : main (F := F) c = seq ops := rfl

set_option maxRecDepth 16384 in
/-- No operation writes the images -/
theorem arg0_eq (V : Valuation τ sig (Elt F)) :
    after ops V (main_arg0 : DevRef τ sig) = V (main_arg0 : DevRef τ sig) := by
  after_results

set_option maxRecDepth 16384 in
/-- or the codebook, -/
theorem arg1_eq (V : Valuation τ sig (Elt F)) :
    after ops V (main_arg1 : DevRef τ sig) = V (main_arg1 : DevRef τ sig) := by
  after_results

set_option maxRecDepth 16384 in
/-- the index buffer ends at the nearest codes, -/
theorem code_eq (V : Valuation τ sig (Elt F)) :
    after ops V (main_v16 : DevRef τ sig) = code (dist (V (main_arg0 : DevRef τ sig)) (V (main_arg1 : DevRef τ sig))) := by
  after_results
  rfl

set_option maxRecDepth 16384 in
/-- the quantized images are the looked-up rows, -/
theorem quant_eq (V : Valuation τ sig (Elt F)) :
    after ops V (main_v19 : DevRef τ sig)
      = quant (take (V (main_arg1 : DevRef τ sig)) (code (dist (V (main_arg0 : DevRef τ sig)) (V (main_arg1 : DevRef τ sig))))) := by
  after_results
  rfl

set_option maxRecDepth 16384 in
/-- and the loss is the mean square of the error. -/
theorem loss_eq (V : Valuation τ sig (Elt F)) :
    after ops V (main_v23 : DevRef τ sig)
      = loss (V (main_arg0 : DevRef τ sig))
          (quant (take (V (main_arg1 : DevRef τ sig)) (code (dist (V (main_arg0 : DevRef τ sig)) (V (main_arg1 : DevRef τ sig)))))) := by
  after_results
  rfl

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., binary_bufs_sub .., nullary_bufs_sub .., binary_bufs_sub ..,
    unary_bufs_sub .., binary_bufs_sub .., nullary_bufs_sub .., binary_bufs_sub .., unary_bufs_sub ..,
    binary_bufs_sub .., unary_bufs_sub .., unary_bufs_sub .., unary_bufs_sub .., binary_bufs_sub ..,
    nullary_bufs_sub .., unary_bufs_sub .., binary_bufs_sub .., binary_bufs_sub .., nullary_bufs_sub ..,
    nullary_bufs_sub .., nullary_bufs_sub .., quaternary_bufs_sub .., quaternary_bufs_sub .., nullary_bufs_sub ..,
    unary_bufs_sub .., binary_bufs_sub .., nullary_bufs_sub .., unary_bufs_sub .., binary_bufs_sub ..,
    ternary_bufs_sub .., unary_bufs_sub .., nullary_bufs_sub .., nullary_bufs_sub .., unary_bufs_sub ..,
    binary_bufs_sub .., unary_bufs_sub .., unary_bufs_sub .., binary_bufs_sub .., binary_bufs_sub ..,
    nullary_bufs_sub .., binary_bufs_sub .., binary_bufs_sub .., unary_bufs_sub .., nullary_bufs_sub ..,
    unary_bufs_sub .., ternary_bufs_sub .., reshape_bufs_sub .., unary_bufs_sub .., binary_bufs_sub ..,
    binary_bufs_sub .., nullary_bufs_sub .., binary_bufs_sub .., nullary_bufs_sub .., binary_bufs_sub ..⟩

/-- From any memory with zero counters every weakly fair execution of @main terminates; at the end the three results are
    the quantized images, the codes and the loss of the arguments, the arguments are unchanged, and every counter is
    zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v19)
          = quant (take (m ((c.tc : Thread nD τ).loc main_arg1))
              (code (dist (m ((c.tc : Thread nD τ).loc main_arg0)) (m ((c.tc : Thread nD τ).loc main_arg1)))))
        ∧ r.2.mem ((c.tc : Thread nD τ).loc main_v16)
          = code (dist (m ((c.tc : Thread nD τ).loc main_arg0)) (m ((c.tc : Thread nD τ).loc main_arg1)))
        ∧ r.2.mem ((c.tc : Thread nD τ).loc main_v23)
          = loss (m ((c.tc : Thread nD τ).loc main_arg0))
              (quant (take (m ((c.tc : Thread nD τ).loc main_arg1))
                (code (dist (m ((c.tc : Thread nD τ).loc main_arg0)) (m ((c.tc : Thread nD τ).loc main_arg1))))))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v19).trans (quant_eq _), (h c main_v16).trans (code_eq _),
      (h c main_v23).trans (loss_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

end Cert.Proof.RefRun

end
-- ==== Proof.Consts.lean ====
/-
  The float constants of the two programs, as extended reals.
-/
module

public import Idealize.ShloMosaic.PureOps.Ideal.Laws
public import Mathlib.Tactic.NormNum

@[expose] public section

namespace Cert.Proof.Consts

open Idealize.ShloMosaic

/-- The half by which the kernel scales the squared lengths. -/
theorem half_f32 : Ideal.ofBits .f32 0x3F000000#32 = ((1 / 2 : ℝ) : EReal) := by
  simp [Ideal.ofBits, Ideal.ieee, -EReal.coe_mul]; norm_num

/-- The two before the products in the squared distance. -/
theorem two_f32 : Ideal.ofBits .f32 0x40000000#32 = ((2 : ℝ) : EReal) := by
  simp [Ideal.ofBits, Ideal.ieee, -EReal.coe_mul]; norm_num

/-- The infinity a minimum starts from. -/
theorem inf_f32 : Ideal.ofBits .f32 0x7F800000#32 = ⊤ := by
  simp [Ideal.ofBits, Ideal.ieee]

end Cert.Proof.Consts
-- ==== Proof.Tie.lean ====
/-
  The precondition over the extended reals: where it holds, every row's distances have a strictly least one.
-/
module

public import proofs.«01_k».proof.Proof.RefRun
public import proofs.«01_k».proof.Proof.Gen.Pre_no_tie
public import proofs.«01_k».proof.Proof.Consts
public import Idealize.ShloMosaic.Lib.Pointwise

@[expose] public section

noncomputable section

namespace Cert.Proof.Tie

open Cert.Pre_no_tie Cert.Pre_no_tie.Gen
open Idealize.ShloMosaic Idealize.ShloMosaic.TcCoe

/-- The rows of an array whose least entry occurs once. -/
def once (d : FVec Ideal S9216x1024 .f32) : IVec S9216 1 :=
  fn_part1 (F := Ideal) (cmpf .oeq d (broadcastInDim S9216x1024 ![0, 1] Facts.bcast_S9216x1_S9216x1024_0_1
    (broadcastInDim S9216x1 ![0] Facts.bcast_S9216_S9216x1_0
      (Host.reduce (FloatOps.minimumf (F := Ideal) (φ := .f32)) d (constant (F := Ideal) S_ .f32 0x7F800000#32) Facts.reducesTo_S9216x1024_S9216_d1 Facts.h_S_))))

/-- The precondition asks this of the reference's distances. -/
theorem fn_eq (x : FVec Ideal S16x256x24x24 .f32) (cb : FVec Ideal S1024x256 .f32) :
    fn (F := Ideal) x cb = once (RefRun.dist x cb) := rfl

/-- A count of true conditions, in words, from zero. -/
theorem fold_count {n : ℕ} (p : Fin n → Prop) [DecidablePred p] (s : Finset (Fin n)) :
    Finset.fold IntOp.addi (0#32) (fun i => BitVec.setWidth 32 (BitVec.ofBool (decide (p i)))) s
      = BitVec.ofNat 32 (s.filter p).card := by
  classical
  induction s using Finset.induction_on with
  | empty => rfl
  | insert a s ha ih =>
    rw [Finset.fold_insert ha, ih]
    by_cases h : p a
    · rw [Finset.filter_insert, if_pos h, Finset.card_insert_of_notMem (fun e => ha (Finset.mem_filter.mp e).1), decide_eq_true h,
        Nat.add_comm, BitVec.ofNat_add]
      rfl
    · rw [Finset.filter_insert, if_neg h, decide_eq_false h]
      show 0#32 + _ = _
      simp

/-- The least of finitely many values is below each of them. -/
theorem fold_min_le {n : ℕ} (f : Fin n → EReal) (b : EReal) (j : Fin n) :
    Finset.fold min b f Finset.univ ≤ f j :=
  (Finset.fold_min_le (f j)).mpr (Or.inr ⟨j, Finset.mem_univ j, le_refl _⟩)

/-- A row whose least entry occurs once has a strictly least entry. -/
theorem exists_least (d : FVec Ideal S9216x1024 .f32) (r : Fin 9216) (h : once d (ix1 r) = 1#1) :
    ∃ k : Fin 1024, ∀ j, j ≠ k → d (ix2 r k) < d (ix2 r j) := by
  revert h
  pointwise [once, fn_part1]
  rw [fold_count]
  generalize hm : Finset.fold min (Ideal.ofBits FTy.f32 2139095040#32) (fun x : Fin 1024 => d (ix2 r x)) Finset.univ = m
  intro h
  have hle : ∀ j, m ≤ d (ix2 r j) := fun j => hm ▸ fold_min_le (fun x : Fin 1024 => d (ix2 r x)) _ j
  have hc : BitVec.ofNat 32 (Finset.univ.filter fun x : Fin 1024 => d (ix2 r x) = m).card = 1#32 := by
    by_contra hne
    have : IntOp.cmpi .eq (BitVec.ofNat 32 (Finset.univ.filter fun x : Fin 1024 => d (ix2 r x) = m).card) 1#32 = 0#1 := by
      simp [IntOp.cmpi, beq_eq_false_iff_ne.mpr hne]
    rw [this] at h
    exact absurd h (by decide)
  have hcard : (Finset.univ.filter fun x : Fin 1024 => d (ix2 r x) = m).card = 1 := by
    have hb : (Finset.univ.filter fun x : Fin 1024 => d (ix2 r x) = m).card ≤ 1024 :=
      (Finset.card_le_univ _).trans (by simp)
    have := congrArg BitVec.toNat hc
    rw [BitVec.toNat_ofNat, BitVec.toNat_ofNat] at this
    omega
  obtain ⟨k, hk⟩ := Finset.card_eq_one.mp hcard
  have hmem : ∀ x, d (ix2 r x) = m ↔ x = k := fun x => by
    have : x ∈ (Finset.univ.filter fun x : Fin 1024 => d (ix2 r x) = m) ↔ x = k := by rw [hk, Finset.mem_singleton]
    simpa using this
  refine ⟨k, fun j hj => ?_⟩
  rw [(hmem k).mpr rfl]
  exact lt_of_le_of_ne (hle j) fun e => hj ((hmem j).mp e.symm)

/-- Under the precondition every row of the reference's distances has a strictly least entry. -/
theorem nearest (x : FVec Ideal S16x256x24x24 .f32) (cb : FVec Ideal S1024x256 .f32)
    (h : fn (F := Ideal) x cb = fun _ => 1#1) (r : Fin 9216) :
    ∃ k : Fin 1024, ∀ j, j ≠ k → RefRun.dist x cb (ix2 r k) < RefRun.dist x cb (ix2 r j) :=
  exists_least _ r ((congrFun (fn_eq x cb) (ix1 r)).symm.trans (congrFun h (ix1 r)))

end Cert.Proof.Tie
-- ==== Proof.KerRead.lean ====
/-
  What the body computes on one image, read at an index over the extended reals.
-/
module

public import proofs.«01_k».proof.Proof.Slab
public import proofs.«01_k».proof.Proof.Consts
public import Idealize.ShloMosaic.Lib.Pointwise

@[expose] public section

noncomputable section

namespace Cert.Proof.KerRead

open Cert.KernelIdeal Cert.KernelIdeal.Gen Cert.Proof.Slab
open Idealize.ShloMosaic Idealize.ShloMosaic.TcCoe

/-- Half the squared length of code vector `k`. -/
theorem half_apply (cb : Vec Ideal S1024x256 .f32) (k : Fin 1024) :
    k0_pay6 cb (ix2 k 0) = ((1 / 2 : ℝ) : EReal) * ∑ c : Fin 256, cb (ix2 k c) * cb (ix2 k c) := by
  pointwise [k0_pay6]
  rw [Consts.half_f32]

/-- Over the extended reals the scratch copy of the codebook is the codebook. -/
theorem table_eq (cb : Vec Ideal S1024x256 .f32) : k0_pay7 cb = cb := by
  funext j
  pointwise [k0_pay7]

/-- The scores of an image's positions, in the body's operations. -/
def score (cb : FVec Ideal S1024x256 .f32) (x : FVec Ideal S1x256x576 .f32) (h : FVec Ideal S1024x1 .f32) : FVec Ideal S1024x576 .f32 :=
  subf (broadcastTo S1024x576 h broadcasts_S1024x1_S1024x576)
    (matmul dot_S1024x256_S256x576_S1024x576_1_0_0_1_n_n none cb (k0_pay9 (F := Ideal) x) (constant S1024x576 .f32 0x00000000#32))

/-- The score of code vector `k` at position `p`. -/
theorem score_apply (cb : Vec Ideal S1024x256 .f32) (x : Vec Ideal S1x256x576 .f32) (h : Vec Ideal S1024x1 .f32) (k : Fin 1024)
    (p : Fin 576) : score cb x h (ix2 k p) = h (ix2 k 0) - ∑ c : Fin 256, cb (ix2 k c) * x (ix3 0 c p) := by
  pointwise [score, k0_pay9]

/-- The first least entry of a column is its strictly least entry, where there is one. -/
theorem reduceIndex_of_lt (s : FVec Ideal S1024x576 .f32) (k : Fin 1024) (p : Fin 576)
    (hk : ∀ j, j ≠ k → s (ix2 k p) < s (ix2 j p)) :
    reduceIndex .argMin 0 S576 s reduces_S1024x576_S576 (ix1 p) = BitVec.ofNat 32 k.val := by
  show Ideal.reduceIndex .argMin 0 reduces_S1024x576_S576 s (ix1 p) = _
  have hd : ∀ i : S1024x576.Idx, reduces_S1024x576_S576.drop i = ix1 p ↔ ∃ k : Fin 1024, ix2 k p = i :=
    fun i => Shape.Reduces.fiber_r2_a0 reduces_S1024x576_S576 (ix1 p) i
  have he : (Finset.univ.filter (fun i : S1024x576.Idx => reduces_S1024x576_S576.drop i = ix1 p)).filter
      (fun i => ∀ i' ∈ Finset.univ.filter (fun i : S1024x576.Idx => reduces_S1024x576_S576.drop i = ix1 p), ¬ (s i' < s i))
      = {ix2 k p} := by
    ext i
    simp only [Finset.mem_filter, Finset.mem_univ, true_and, Finset.mem_singleton, hd]
    constructor
    · rintro ⟨⟨j, rfl⟩, h⟩
      by_contra hne
      have hjk : j ≠ k := fun e => hne (by rw [e])
      exact h _ ⟨k, rfl⟩ (hk j hjk)
    · rintro rfl
      refine ⟨⟨k, rfl⟩, ?_⟩
      rintro _ ⟨j, rfl⟩
      by_cases e : j = k
      · rw [e]; exact lt_irrefl _
      · exact not_lt.mpr (hk j e).le
  unfold Ideal.reduceIndex
  simp only [reduceCtorEq, if_false]
  rw [he, Finset.image_singleton]
  rfl

/-- The code of a position whose scores have a strictly least one is that one's number. -/
theorem pay10_of_lt (cb : Vec Ideal S1024x256 .f32) (x : Vec Ideal S1x256x576 .f32) (h : Vec Ideal S1024x1 .f32) (k : Fin 1024)
    (p : Fin 576) (hk : ∀ j, j ≠ k → h (ix2 k 0) - ∑ c : Fin 256, cb (ix2 k c) * x (ix3 0 c p)
      < h (ix2 j 0) - ∑ c : Fin 256, cb (ix2 j c) * x (ix3 0 c p)) :
    k0_pay10 cb x h (ix1 p) = BitVec.ofNat 32 k.val :=
  reduceIndex_of_lt (score cb x h) k p fun j hj => by rw [score_apply, score_apply]; exact hk j hj

/-- The mask is one at the code's own row -/
theorem onehot_self (k : Fin 1024) : FloatOps.sitofp (F := Ideal) FTy.f32
    (BitVec.setWidth 32 (IntOp.cmpi .eq (BitVec.ofNat 32 k.val) (BitVec.ofNat 32 k.val))) = (1 : EReal) := by
  have h : IntOp.cmpi .eq (BitVec.ofNat 32 k.val) (BitVec.ofNat 32 k.val) = 1#1 := by simp [IntOp.cmpi]
  rw [h]
  show (((BitVec.setWidth 32 1#1).toInt : ℝ) : EReal) = 1
  simp

/-- and zero at the others. -/
theorem onehot_ne (j k : Fin 1024) (hj : j ≠ k) : FloatOps.sitofp (F := Ideal) FTy.f32
    (BitVec.setWidth 32 (IntOp.cmpi .eq (BitVec.ofNat 32 j.val) (BitVec.ofNat 32 k.val))) = (0 : EReal) := by
  have hne : BitVec.ofNat 32 j.val ≠ BitVec.ofNat 32 k.val := fun e => hj <| Fin.ext <| by
    have := congrArg BitVec.toNat e
    rw [BitVec.toNat_ofNat, BitVec.toNat_ofNat] at this
    have := j.isLt; have := k.isLt
    omega
  have h : IntOp.cmpi .eq (BitVec.ofNat 32 j.val) (BitVec.ofNat 32 k.val) = 0#1 := by simp [IntOp.cmpi, beq_eq_false_iff_ne.mpr hne]
  rw [h]
  show (((BitVec.setWidth 32 0#1).toInt : ℝ) : EReal) = 0
  simp

/-- The product with the mask of the codes is the code vector itself. -/
theorem pay12_apply (cb : Vec Ideal S1024x256 .f32) (x : Vec Ideal S1x256x576 .f32) (h : Vec Ideal S1024x1 .f32) (cbb : Vec Ideal S1024x256 .bf16) (c : Fin 256) (p : Fin 576) (k : Fin 1024)
   (hk : k0_pay10 cb x h (ix1 p) = BitVec.ofNat 32 k.val) :
    k0_pay12 cb x h cbb (ix2 c p) = cbb (ix2 k c) := by
  unfold k0_pay12
  generalize k0_pay10 cb x h = w at *
  pointwise
  rw [hk, Finset.sum_eq_single k]
  · rw [onehot_self, mul_one]
  · intro j _ hj
    rw [onehot_ne j k hj, mul_zero]
  · intro h; exact absurd (Finset.mem_univ k) h

/-- One image's step of the loss: what was held plus the sum of the squared differences. -/
theorem pay15_apply (d : FVec Ideal S256x576 .f32) (prev : Vec Ideal S1x1 .f32) (j : S1x1.Idx) :
    k0_pay15 d prev j = prev j + ∑ c : Fin 256, ∑ p : Fin 576, d (ix2 c p) * d (ix2 c p) := by
  pointwise [k0_pay15]

/-- The difference of an image and its code vectors, entry by entry. -/
theorem pay14_apply (cb : Vec Ideal S1024x256 .f32) (x : Vec Ideal S1x256x576 .f32) (h : Vec Ideal S1024x1 .f32) (cbb : Vec Ideal S1024x256 .bf16) (c : Fin 256) (p : Fin 576) :
    k0_pay14 cb x h cbb (ix2 c p) = x (ix3 0 c p) - k0_pay12 cb x h cbb (ix2 c p) := by
  pointwise [k0_pay14, k0_pay9]

/-- The quantized image as it is stored: the code vectors with a leading axis. -/
theorem pay13_apply (cb : Vec Ideal S1024x256 .f32) (x : Vec Ideal S1x256x576 .f32) (h : Vec Ideal S1024x1 .f32) (cbb : Vec Ideal S1024x256 .bf16) (c : Fin 256) (p : Fin 576) :
    k0_pay13 cb x h cbb (ix3 0 c p) = k0_pay12 cb x h cbb (ix2 c p) := by
  pointwise [k0_pay13]

/-- The codes as they are stored: with two leading axes. -/
theorem pay11_apply (cb : Vec Ideal S1024x256 .f32) (x : Vec Ideal S1x256x576 .f32) (h : Vec Ideal S1024x1 .f32) (p : Fin 576) :
    k0_pay11 cb x h (ix3 0 0 p) = k0_pay10 cb x h (ix1 p) := by
  pointwise [k0_pay11]

end Cert.Proof.KerRead
-- ==== Proof.RefValue.lean ====
/-
  What the reference computes, read at an index over the extended reals.
-/
module

public import proofs.«01_k».proof.Proof.RefRun
public import proofs.«01_k».proof.Proof.Consts
public import Idealize.ShloMosaic.Lib.Pointwise

@[expose] public section

noncomputable section

namespace Cert.Proof.RefValue

open Cert.ReferenceIdeal Cert.ReferenceIdeal.Gen
open Idealize.ShloMosaic Idealize.ShloMosaic.TcCoe

/-- Row `r` is a pixel of image `r / 576`, its columns the pixel's channels. -/
theorem rows_apply (x : FVec Ideal S16x256x24x24 .f32) (r : Fin 9216) (c : Fin 256) :
    RefRun.rows x (ix2 r c) = x (ix4 (n0 := 16) ⟨r.val / 576, by omega⟩ c (⟨r.val / 24 % 24, by omega⟩ : Fin 24)
      (⟨r.val % 24, by omega⟩ : Fin 24)) := by
  pointwise [RefRun.rows]

/-- The squared distance of row `r` from code vector `k`, with the square expanded. -/
theorem dist_apply (x : FVec Ideal S16x256x24x24 .f32) (cb : FVec Ideal S1024x256 .f32) (r : Fin 9216) (k : Fin 1024) :
    RefRun.dist x cb (ix2 r k) = (∑ c : Fin 256, RefRun.rows x (ix2 r c) * RefRun.rows x (ix2 r c))
      + (∑ c : Fin 256, cb (ix2 k c) * cb (ix2 k c))
      - ((2 : ℝ) : EReal) * ∑ c : Fin 256, RefRun.rows x (ix2 r c) * cb (ix2 k c) := by
  unfold RefRun.dist
  generalize RefRun.rows x = y
  pointwise
  rw [Consts.two_f32]

/-- The image of the rows: pixel `(h, w)` of image `b` is row `576 b + 24 h + w`. -/
theorem quant_apply (t : FVec Ideal S9216x256 .f32) (b : Fin 16) (c : Fin 256) (h w : Fin 24) :
    RefRun.quant t (ix4 b c h w) = t (ix2 (n0 := 9216) ⟨b.val * 576 + h.val * 24 + w.val, by omega⟩ c) := by
  pointwise [RefRun.quant]

/-- The loss: the sum of the squared differences over their number. -/
theorem loss_apply (x q : FVec Ideal S16x256x24x24 .f32) (j : S_.Idx) :
    RefRun.loss x q j = Ideal.div (∑ b : Fin 16, ∑ c : Fin 256, ∑ h : Fin 24, ∑ w : Fin 24,
      (x (ix4 b c h w) - q (ix4 b c h w)) * (x (ix4 b c h w) - q (ix4 b c h w))) (Ideal.ofBits .f32 0x4A100000#32) := by
  pointwise [RefRun.loss]
  rw [Ideal.hostReduceAdd_total _ (fun b => b.elim0), zero_add, sum_idx4]
  pointwise

/-- The number of a code vector, read as a signed word. -/
theorem toInt_code (k : Fin 1024) : (BitVec.ofNat 32 k.val).toInt = (k.val : ℤ) := by
  have hk := k.isLt
  have hn : (BitVec.ofNat 32 k.val).toNat = k.val := by rw [BitVec.toNat_ofNat]; omega
  rw [BitVec.toInt_eq_toNat_of_lt (by rw [hn]; omega), hn]

/-- An index into the codebook stays as it is. -/
theorem wrapped_apply (idx : IVec S9216 32) (r : Fin 9216) (k : Fin 1024) (h : idx (ix1 r) = BitVec.ofNat 32 k.val) :
    RefRun.wrapped idx (ix2 r 0) = BitVec.ofNat 32 k.val := by
  pointwise [RefRun.wrapped]
  rw [h]
  have : IntOp.cmpi .slt (BitVec.ofNat 32 k.val) 0#32 = 0#1 := by
    have : ¬ ((k.val : ℤ) < 0) := by omega
    simp [IntOp.cmpi, BitVec.slt, toInt_code, this]
  rw [this]
  rfl

/-- The lookup of rows of the codebook, one for each row index. -/
abbrev lookup : GatherDims S1024x256 S9216x1 S9216x256 := gather_S1024x256_S9216x1_S9216x256_1_0_n_n_0_1_1256

/-- Entry `(r, c)` of the lookup reads row index `r`, -/
theorem lookup_index (r : Fin 9216) (c : Fin 256) (n : Fin lookup.startIndexMap.length) : lookup.siIdx (ix2 r c) n = ix2 r 0 := by
  obtain rfl : n = (⟨0, Nat.one_pos⟩ : Fin 1) := Subsingleton.elim (α := Fin 1) n _
  exact funext (Fin.forall_fin_two.mpr ⟨rfl, rfl⟩)

/-- starts at the row of that index, clamped, -/
theorem lookup_row (y : IVec S9216x1 32) (r : Fin 9216) (c : Fin 256) :
    lookup.start (ix2 r c) y (0 : Fin 2) = min (y (ix2 r 0)).toInt.toNat 1023 :=
  (dif_pos (show (0 : Fin 2) ∈ lookup.startIndexMap by decide)).trans
    (congrArg (fun i => min (y i).toInt.toNat 1023) (lookup_index r c _))

/-- and at the first column, -/
theorem lookup_column (y : IVec S9216x1 32) (r : Fin 9216) (c : Fin 256) : lookup.start (ix2 r c) y (1 : Fin 2) = 0 :=
  dif_neg (show (1 : Fin 2) ∉ lookup.startIndexMap by decide)

/-- so it is the codebook's entry `c` at the clamped index. -/
theorem gather_apply (cb : FVec Ideal S1024x256 .f32) (y : IVec S9216x1 32) (r : Fin 9216) (c : Fin 256) :
    Host.gather lookup cb y (ix2 r c) = cb (ix2 (n0 := 1024) ⟨min (y (ix2 r 0)).toInt.toNat 1023, by omega⟩ c) := by
  refine congrArg cb (funext (Fin.forall_fin_two.mpr ⟨Fin.ext ?_, Fin.ext ?_⟩))
  · show lookup.start (ix2 r c) y (0 : Fin 2) + 0 + 0 = min (y (ix2 r 0)).toInt.toNat 1023
    exact lookup_row y r c
  · show lookup.start (ix2 r c) y (1 : Fin 2) + 0 + c.val = c.val
    rw [lookup_column, Nat.add_zero, Nat.zero_add]

/-- The row looked up at an index into the codebook is the code vector. -/
theorem take_apply (cb : FVec Ideal S1024x256 .f32) (idx : IVec S9216 32) (r : Fin 9216) (c : Fin 256) (k : Fin 1024)
    (h : idx (ix1 r) = BitVec.ofNat 32 k.val) : RefRun.take cb idx (ix2 r c) = cb (ix2 k c) := by
  have hw := wrapped_apply idx r k h
  unfold RefRun.take
  generalize RefRun.wrapped idx = y at *
  pointwise
  have h0 : IntOp.cmpi .sge (BitVec.ofNat 32 k.val) 0#32 = 1#1 := by
    simp [IntOp.cmpi, BitVec.sle, toInt_code]
  have h1 : IntOp.cmpi .sle (BitVec.ofNat 32 k.val) 1023#32 = 1#1 := by
    have hk := k.isLt
    have : (k.val : ℤ) ≤ 1023 := by omega
    simp [IntOp.cmpi, BitVec.sle, toInt_code, this]
  have hf : Finset.fold IntOp.andi (1#1) (fun x : Fin 1 => IntOp.andi (IntOp.cmpi .sge (y (ix2 r x)) 0#32)
      (IntOp.cmpi .sle (y (ix2 r x)) 1023#32)) Finset.univ = 1#1 := by
    rw [Finset.univ_unique, Finset.fold_singleton]
    show IntOp.andi (IntOp.andi (IntOp.cmpi .sge (y (ix2 r 0)) 0#32) (IntOp.cmpi .sle (y (ix2 r 0)) 1023#32)) 1#1 = 1#1
    rw [hw, h0, h1]
    rfl
  rw [hf, gather_apply]
  show cb (ix2 ⟨min (y (ix2 r 0)).toInt.toNat 1023, _⟩ c) = _
  congr 2
  refine Fin.ext ?_
  show min (y (ix2 r 0)).toInt.toNat 1023 = k.val
  rw [hw, toInt_code]
  have hk := k.isLt
  omega

end Cert.Proof.RefValue
-- ==== Proof.Argmin.lean ====
/-
  The reference's arg-min over the extended reals: where a row has a strictly least entry, its index is the result.
-/
module

public import proofs.«01_k».proof.Proof.RefRun
public import proofs.«01_k».proof.Proof.Consts
public import Idealize.ShloMosaic.Lib.Pointwise

@[expose] public section

noncomputable section

namespace Cert.Proof.Argmin

open Cert.ReferenceIdeal Cert.ReferenceIdeal.Gen
open Idealize.ShloMosaic Idealize.ShloMosaic.TcCoe

/-- The reducer keeps the second pair where its value is strictly less, -/
theorem step_of_gt (a b : Ideal .f32 × BitVec 32) (h : b.1 < a.1) : reducer_argmin_f32_i32 (F := Ideal) a b = b := by
  have h1 : ¬ (a.1 < b.1) := not_lt.mpr h.le
  have h2 : ¬ (a.1 = b.1) := fun e => (ne_of_gt h) e
  simp [reducer_argmin_f32_i32, Ideal.cmpf_def, Ideal.cmp, h1, h2, IntOp.ori, IntOp.andi, Scalar.select]

/-- the first where its is, -/
theorem step_of_lt (a b : Ideal .f32 × BitVec 32) (h : a.1 < b.1) : reducer_argmin_f32_i32 (F := Ideal) a b = a := by
  have h2 : ¬ (a.1 = b.1) := fun e => (ne_of_lt h) e
  simp [reducer_argmin_f32_i32, Ideal.cmpf_def, Ideal.cmp, h, h2, IntOp.ori, IntOp.andi, Scalar.select]

/-- either where they are the same pair, -/
theorem step_self (a : Ideal .f32 × BitVec 32) : reducer_argmin_f32_i32 (F := Ideal) a a = a := by
  simp [reducer_argmin_f32_i32, Ideal.cmpf_def, Ideal.cmp, IntOp.ori, IntOp.andi, Scalar.select, IntOp.cmpi]

/-- and a value above a bound where both values are. -/
theorem lt_step (m : EReal) (a b : Ideal .f32 × BitVec 32) (ha : m < a.1) (hb : m < b.1) :
    m < (reducer_argmin_f32_i32 (F := Ideal) a b).1 := by
  rcases lt_or_ge a.1 b.1 with h | h
  · rw [step_of_lt a b h]; exact ha
  · rcases h.lt_or_eq with h | h
    · rw [step_of_gt a b h]; exact hb
    · have h1 : ¬ (a.1 < b.1) := by rw [h]; exact lt_irrefl _
      have : (reducer_argmin_f32_i32 (F := Ideal) a b).1 = b.1 := by
        simp [reducer_argmin_f32_i32, Ideal.cmpf_def, Ideal.cmp, h1, IntOp.ori, Scalar.select]
      rw [this]; exact hb

/-- Once the least pair is reached the fold keeps it. -/
theorem foldl_keep (p : Ideal .f32 × BitVec 32) (l : List (Ideal .f32 × BitVec 32))
    (hl : ∀ q ∈ l, q = p ∨ p.1 < q.1) : l.foldl (reducer_argmin_f32_i32 (F := Ideal)) p = p := by
  induction l with
  | nil => rfl
  | cons q l ih =>
    rw [List.foldl_cons]
    have : reducer_argmin_f32_i32 (F := Ideal) p q = p := by
      rcases hl q (by simp) with rfl | h
      · exact step_self _
      · exact step_of_lt _ _ h
    rw [this]
    exact ih fun q hq => hl q (by simp [hq])

/-- The fold over a list holding a strictly least pair is that pair. -/
theorem foldl_least (p : Ideal .f32 × BitVec 32) (l : List (Ideal .f32 × BitVec 32)) (a : Ideal .f32 × BitVec 32)
    (ha : p.1 < a.1) (hp : p ∈ l) (hl : ∀ q ∈ l, q = p ∨ p.1 < q.1) :
    l.foldl (reducer_argmin_f32_i32 (F := Ideal)) a = p := by
  induction l generalizing a with
  | nil => simp at hp
  | cons q l ih =>
    rw [List.foldl_cons]
    rcases hl q (by simp) with rfl | h
    · rw [step_of_gt a q ha]
      exact foldl_keep q l fun r hr => hl r (by simp [hr])
    · refine ih _ (lt_step _ _ _ ha h) ?_ fun r hr => hl r (by simp [hr])
      rcases List.mem_cons.mp hp with e | hp
      · rw [e] at h; exact absurd h (lt_irrefl _)
      · exact hp

/-- An arg-min over the entries that reduce to one index, the first of them strictly least: its value and its number. -/
theorem argReduce_of_lt {s t u : Shape} {axes : List (Fin s.rank)} (h : s.ReducesTo axes t) (hu : 0 < u.numel)
    (x : FVec Ideal s .f32) (y : IVec s 32) (ix : FVec Ideal u .f32) (iy : IVec u 32) (j : t.Idx) (i : s.Idx)
    (hi : h.drop i = j) (hix : x i < ix (Shape.Idx.first hu)) (hl : ∀ i', h.drop i' = j → i' = i ∨ x i < x i') :
    Host.argReduce (reducer_argmin_f32_i32 (F := Ideal)) x y ix iy h hu j = (x i, y i) := by
  rw [Ideal.argReduce_eq_reduce2, Host.reduce2_eq_foldl_fiber]
  refine foldl_least (x i, y i) _ _ hix ?_ ?_
  · refine List.mem_map.mpr ⟨s.rowMajor i, ?_, ?_⟩
    · simp [hi]
    · simp
  · intro q hq
    obtain ⟨n, hn, rfl⟩ := List.mem_map.mp hq
    simp only [List.mem_filter, List.mem_finRange, true_and, decide_eq_true_eq] at hn
    rcases hl _ hn with e | e
    · left; rw [e]
    · right; exact e

/-- The distances of row `r` are the entries that reduce to it. -/
theorem drop_iff (r : Fin 9216) (i : S9216x1024.Idx) :
    reducesTo_S9216x1024_S9216_d1.drop i = ix1 r ↔ ∃ k : Fin 1024, ix2 r k = i :=
  Shape.ReducesTo.fiber_r2_a1 reducesTo_S9216x1024_S9216_d1 (ix1 r) i

/-- The second operand of the arg-min numbers the code vectors. -/
theorem number_apply (r : Fin 9216) (k : Fin 1024) : iotaInDim S9216x1024 32 1 (ix2 r k) = BitVec.ofNat 32 k.val := by pointwise

/-- The codes as the arg-mins' second components. -/
theorem code_eq (d : FVec Ideal S9216x1024 .f32) : RefRun.code d = fun j =>
    (Host.argReduce (reducer_argmin_f32_i32 (F := Ideal)) d (iotaInDim S9216x1024 32 1) (constant S_ .f32 0x7F800000#32)
      (constantI S_ 32 0#32) reducesTo_S9216x1024_S9216_d1 h_S_ j).2 := rfl

/-- The code of a row whose distances have a strictly least one is that one's number. -/
theorem code_of_lt (d : FVec Ideal S9216x1024 .f32) (r : Fin 9216) (k : Fin 1024)
    (hk : ∀ j, j ≠ k → d (ix2 r k) < d (ix2 r j)) : RefRun.code d (ix1 r) = BitVec.ofNat 32 k.val := by
  have h := argReduce_of_lt reducesTo_S9216x1024_S9216_d1 h_S_ d (iotaInDim S9216x1024 32 1)
    (constant S_ .f32 0x7F800000#32) (constantI S_ 32 0#32) (ix1 r) (ix2 r k) ((drop_iff r _).mpr ⟨k, rfl⟩)
    (by
      show d (ix2 r k) < Ideal.ofBits .f32 0x7F800000#32
      rw [Consts.inf_f32]
      obtain ⟨j, hj⟩ : ∃ j : Fin 1024, j ≠ k := exists_ne k
      exact lt_of_lt_of_le (hk j hj) le_top)
    (fun i' hi' => by
      obtain ⟨j, rfl⟩ := (drop_iff r i').mp hi'
      by_cases e : j = k
      · left; rw [e]
      · right; exact hk j e)
  exact (congrFun (code_eq d) (ix1 r)).trans ((congrArg Prod.snd h).trans (number_apply r k))

end Cert.Proof.Argmin
-- ==== Proof.Nearest.lean ====
/-
  The comparison behind the nearest code, on the extended reals. The reference ranks the codes by
  `x² + y² - 2 x·y`, the kernel by `y²/2 - x·y`: wherever the first is strictly less so is the second, infinite values
  included. So a strict minimiser of the first is a strict minimiser of the second.
-/
module

public import Mathlib.Data.EReal.Operations
public import Mathlib.Data.EReal.Inv
public import Mathlib.Tactic.Linarith

@[expose] public section

namespace Cert.Proof.Nearest

/-- A square of an extended real is nonnegative. -/
theorem sq_nonneg (a : EReal) : 0 ≤ a * a := by
  rcases le_total 0 a with h | h
  · exact EReal.mul_nonneg h h
  · rw [← neg_mul_neg]
    exact EReal.mul_nonneg (EReal.neg_nonneg.mpr h) (EReal.neg_nonneg.mpr h)

/-- A sum of squares over a finite set is nonnegative. -/
theorem sum_sq_nonneg {ι : Type*} (s : Finset ι) (f : ι → EReal) : 0 ≤ ∑ i ∈ s, f i * f i :=
  Finset.sum_nonneg fun i _ => sq_nonneg (f i)

/-- The order of two squared distances from one point is the order of the two scores. -/
theorem score_lt (xs yk yj dk dj : EReal) (hxs : 0 ≤ xs) (hk : 0 ≤ yk) (hj : 0 ≤ yj)
    (h : xs + yk - ((2 : ℝ) : EReal) * dk < xs + yj - ((2 : ℝ) : EReal) * dj) :
    ((1 / 2 : ℝ) : EReal) * yk - dk < ((1 / 2 : ℝ) : EReal) * yj - dj := by
  have h2 : (0 : ℝ) < 2 := by norm_num
  have h12 : (0 : ℝ) < 1 / 2 := by norm_num
  have hb : ∀ a : EReal, 0 ≤ a → a ≠ ⊥ := fun a ha e => by rw [e] at ha; simp at ha
  have hxsb := hb _ hxs; have hkb := hb _ hk; have hjb := hb _ hj
  clear hxs hk hj hb
  induction xs <;> induction yk <;> induction yj <;> induction dk <;> induction dj <;>
    simp_all [sub_eq_add_neg, EReal.coe_mul_top_of_pos, EReal.coe_mul_bot_of_pos, -one_div]
  all_goals
    simp only [← EReal.coe_mul, ← EReal.coe_neg, ← EReal.coe_add, EReal.top_add_coe, EReal.coe_add_top,
      EReal.coe_lt_coe_iff, EReal.bot_lt_coe, EReal.coe_lt_top, lt_self_iff_false, not_top_lt, and_self] at *
  linarith

end Cert.Proof.Nearest
-- ==== Proof.Equation.lean ====
/-
  The kernel's three results are the reference's, over the extended reals, wherever every row of distances has a
  strictly least entry.
-/
module

public import proofs.«01_k».proof.Proof.Arrays
public import proofs.«01_k».proof.Proof.KerRead
public import proofs.«01_k».proof.Proof.RefValue
public import proofs.«01_k».proof.Proof.Argmin
public import proofs.«01_k».proof.Proof.Nearest

@[expose] public section

noncomputable section

namespace Cert.Proof.Equation

open Cert.KernelIdeal Cert.KernelIdeal.Gen Cert.Proof.Slab Cert.Proof.Arrays
open Idealize.ShloMosaic Idealize.ShloMosaic.TcCoe

variable (x : FVec Ideal S16x256x24x24 .f32) (cb : FVec Ideal S1024x256 .f32)

/-- The row of position `p` of image `b`. -/
abbrev row (b : Fin 16) (p : Fin 576) : Fin 9216 := ⟨b.val * 576 + p.val, by omega⟩

/-- The images as the kernel reads them, and the reference's rows, are the same numbers. -/
theorem img_apply (b : Fin 16) (c : Fin 256) (p : Fin 576) :
    img (flat (F := Ideal) x) b.val b.isLt (ix3 0 c p) = RefRun.rows x (ix2 (row b p) c) := by
  rw [RefValue.rows_apply]
  show flat (F := Ideal) x (ValueIdx.ix3 b c p) = _
  rw [← ix3_eq_valueIdx]
  pointwise [flat]
  congr 2
  · exact Fin.ext (by show b.val = (b.val * 576 + p.val) / 576; omega)
  · exact Fin.ext (by show p.val / 24 = (b.val * 576 + p.val) / 24 % 24; omega)
  · exact Fin.ext (by show p.val % 24 = (b.val * 576 + p.val) % 24; omega)

/-- The rows' nearest code vectors, given as a function. -/
def IsNearest (near : Fin 9216 → Fin 1024) : Prop :=
  ∀ r j, j ≠ near r → RefRun.dist x cb (ix2 r (near r)) < RefRun.dist x cb (ix2 r j)

variable {x cb} {near : Fin 9216 → Fin 1024}

/-- The kernel's code of a position is its row's nearest code vector, -/
theorem kernel_code (hn : IsNearest x cb near) (b : Fin 16) (p : Fin 576) :
    k0_pay10 cb (img (flat (F := Ideal) x) b.val b.isLt) (half (F := Ideal) cb) (ix1 p) = BitVec.ofNat 32 (near (row b p)).val := by
  refine KerRead.pay10_of_lt _ _ _ _ _ fun j hj => ?_
  have h := hn (row b p) j hj
  rw [RefValue.dist_apply, RefValue.dist_apply] at h
  have h' := Nearest.score_lt _ _ _ _ _ (Nearest.sum_sq_nonneg _ _) (Nearest.sum_sq_nonneg _ _) (Nearest.sum_sq_nonneg _ _) h
  have e : ∀ k : Fin 1024, (∑ c : Fin 256, cb (ix2 k c) * img (flat (F := Ideal) x) b.val b.isLt (ix3 0 c p))
      = ∑ c : Fin 256, RefRun.rows x (ix2 (row b p) c) * cb (ix2 k c) := fun k =>
    Finset.sum_congr rfl fun c _ => by rw [img_apply, mul_comm]
  rw [e, e]
  unfold half
  rw [KerRead.half_apply, KerRead.half_apply]
  exact h'

/-- and so is the reference's. -/
theorem reference_code (hn : IsNearest x cb near) (r : Fin 9216) :
    RefRun.code (RefRun.dist x cb) (ix1 r) = BitVec.ofNat 32 (near r).val :=
  Argmin.code_of_lt _ r _ (hn r)

/-- The kernel's quantized vector of a position is that code vector, -/
theorem kernel_vector (hn : IsNearest x cb near) (b : Fin 16) (c : Fin 256) (p : Fin 576) :
    k0_pay12 cb (img (flat (F := Ideal) x) b.val b.isLt) (half (F := Ideal) cb) (table (F := Ideal) cb) (ix2 c p)
      = cb (ix2 (near (row b p)) c) := by
  rw [KerRead.pay12_apply _ _ _ _ _ _ _ (kernel_code hn b p)]
  exact congrFun (KerRead.table_eq cb) _

/-- and so is the reference's. -/
theorem reference_vector (hn : IsNearest x cb near) (r : Fin 9216) (c : Fin 256) :
    RefRun.take cb (RefRun.code (RefRun.dist x cb)) (ix2 r c) = cb (ix2 (near r) c) :=
  RefValue.take_apply _ _ _ _ _ (reference_code hn r)

/-- The indices agree. -/
theorem codes_eq (hn : IsNearest x cb near) :
    shapeCast S9216 (allCodes (flat (F := Ideal) x) cb) shapeCasts_S16x1x576_S9216 = RefRun.code (RefRun.dist x cb) := by
  funext j
  obtain ⟨r, rfl⟩ : ∃ r : Fin 9216, ix1 r = j := ⟨j 0, (eq_ix1 j).symm⟩
  rw [reference_code hn]
  have e : shapeCast S9216 (allCodes (flat (F := Ideal) x) cb) shapeCasts_S16x1x576_S9216 (ix1 r)
      = allCodes (flat (F := Ideal) x) cb (ix3 (n0 := 16) ⟨r.val / 576, by omega⟩ 0 ⟨r.val % 576, by omega⟩) := by pointwise
  rw [e]
  show k0_pay11 cb (img (flat (F := Ideal) x) (r.val / 576) _) (half (F := Ideal) cb) (ValueIdx.ix3 (0 : Fin 1) (0 : Fin 1) (⟨r.val % 576, _⟩ : Fin 576)) = _
  rw [← ix3_eq_valueIdx, KerRead.pay11_apply]
  have := kernel_code hn ⟨r.val / 576, by omega⟩ ⟨r.val % 576, by omega⟩
  refine this.trans ?_
  congr 3
  exact Fin.ext (by show r.val / 576 * 576 + r.val % 576 = r.val; omega)

/-- The quantized images agree. -/
theorem images_eq (hn : IsNearest x cb near) :
    shapeCast S16x256x24x24 (extf .f32 (images (flat (F := Ideal) x) cb) bitsLt_bf16_f32) shapeCasts_S16x256x576_S16x256x24x24
      = RefRun.quant (RefRun.take cb (RefRun.code (RefRun.dist x cb))) := by
  funext j
  obtain ⟨b, c, h, w, rfl⟩ : ∃ (b : Fin 16) (c : Fin 256) (h w : Fin 24), ix4 b c h w = j :=
    ⟨j 0, j 1, j 2, j 3, (eq_ix4 j).symm⟩
  rw [RefValue.quant_apply, reference_vector hn]
  have e : shapeCast S16x256x24x24 (extf .f32 (images (flat (F := Ideal) x) cb) bitsLt_bf16_f32)
        shapeCasts_S16x256x576_S16x256x24x24 (ix4 b c h w)
      = images (flat (F := Ideal) x) cb (ix3 b c (⟨h.val * 24 + w.val, by omega⟩ : Fin 576)) := by pointwise
  rw [e]
  show k0_pay13 cb (img (flat (F := Ideal) x) b.val _) (half (F := Ideal) cb) (table (F := Ideal) cb) (ValueIdx.ix3 (0 : Fin 1) c (⟨h.val * 24 + w.val, _⟩ : Fin 576)) = _
  rw [← ix3_eq_valueIdx, KerRead.pay13_apply, kernel_vector hn]
  congr 2
  congr 1
  exact Fin.ext (by show b.val * 576 + (h.val * 24 + w.val) = b.val * 576 + h.val * 24 + w.val; omega)

/-- The squared error of one entry. -/
abbrev err (x : FVec Ideal S16x256x24x24 .f32) (cb : FVec Ideal S1024x256 .f32) (near : Fin 9216 → Fin 1024) (b : Fin 16)
    (c : Fin 256) (p : Fin 576) : EReal :=
  (RefRun.rows x (ix2 (row b p) c) - cb (ix2 (near (row b p)) c)) * (RefRun.rows x (ix2 (row b p) c) - cb (ix2 (near (row b p)) c))

/-- One image adds its squared errors to the loss. -/
theorem lossStep_apply (hn : IsNearest x cb near) (b : Fin 16) (prev : Vec Ideal S1x1 .f32) (j : S1x1.Idx) :
    lossStep cb (img (flat (F := Ideal) x) b.val b.isLt) (half (F := Ideal) cb) (table (F := Ideal) cb) prev j
      = prev j + ∑ c : Fin 256, ∑ p : Fin 576, err x cb near b c p := by
  refine (KerRead.pay15_apply _ prev j).trans (congrArg (prev j + ·) ?_)
  refine Finset.sum_congr rfl fun c _ => Finset.sum_congr rfl fun p _ => ?_
  rw [KerRead.pay14_apply, kernel_vector hn, img_apply]

/-- The loss after the first images is the sum of their squared errors, -/
theorem lossAfter_apply (hn : IsNearest x cb near) (n : ℕ) (h : n ≤ 16) (j : S1x1.Idx) :
    lossAfter (flat (F := Ideal) x) cb n h j
      = ∑ b : Fin n, ∑ c : Fin 256, ∑ p : Fin 576, err x cb near (b.castLE h) c p := by
  induction n with
  | zero =>
    show Ideal.ofBits .f32 0x00000000#32 = _
    rw [Ideal.ofBits_zero_f32]
    simp
  | succ n ih =>
    rw [Fin.sum_univ_castSucc]
    have := lossStep_apply hn (⟨n, h⟩ : Fin 16) (lossAfter (flat (F := Ideal) x) cb n (Nat.le_of_succ_le h)) j
    refine this.trans ?_
    rw [ih (Nat.le_of_succ_le h)]
    rfl

/-- and the losses agree. -/
theorem loss_eq (hn : IsNearest x cb near) :
    Host.divf (shapeCast S_ (lossAfter (flat (F := Ideal) x) cb 16 (by decide)) shapeCasts_S1x1_S_) (constant S_ .f32 0x4A100000#32)
      = RefRun.loss x (RefRun.quant (RefRun.take cb (RefRun.code (RefRun.dist x cb)))) := by
  funext j
  rw [RefValue.loss_apply]
  show Ideal.div (lossAfter (flat (F := Ideal) x) cb 16 _ _) (Ideal.ofBits .f32 0x4A100000#32) = _
  rw [lossAfter_apply hn]
  congr 1
  refine Finset.sum_congr rfl fun b _ => Finset.sum_congr rfl fun c _ => ?_
  rw [Idealize.ShloMosaic.Fin.sum_univ_tiles 24 24 rfl]
  refine Finset.sum_congr rfl fun h _ => Finset.sum_congr rfl fun w _ => ?_
  rw [RefValue.quant_apply, reference_vector hn]
  have er : row (b.castLE (le_refl 16)) ⟨h.val * 24 + w.val, by omega⟩ = ⟨b.val * 576 + h.val * 24 + w.val, by omega⟩ :=
    Fin.ext (by show b.val * 576 + (h.val * 24 + w.val) = b.val * 576 + h.val * 24 + w.val; omega)
  have ex : RefRun.rows x (ix2 (⟨b.val * 576 + h.val * 24 + w.val, by omega⟩ : Fin 9216) c) = x (ix4 b c h w) := by
    rw [RefValue.rows_apply]
    congr 2
    · exact Fin.ext (by show (b.val * 576 + h.val * 24 + w.val) / 576 = b.val; omega)
    · exact Fin.ext (by show (b.val * 576 + h.val * 24 + w.val) / 24 % 24 = h.val; omega)
    · exact Fin.ext (by show (b.val * 576 + h.val * 24 + w.val) % 24 = w.val; omega)
  show err x cb near (b.castLE (le_refl 16)) c ⟨h.val * 24 + w.val, _⟩ = _
  unfold err
  rw [er, ex]

end Cert.Proof.Equation
-- ==== Proof.lean ====
/-
  The certificate: the kernel runs and leaves its arguments alone, its idealization and the reference do too, and over
  the extended reals the two end with the same quantized images, indices and loss wherever no two codes are equally near
  a vector. The parts: Proof/Slab.lean, Proof/Block.lean and Proof/Arrays.lean (what the kernel leaves in its result
  arrays), Proof/RefRun.lean (what the reference leaves), Proof/KerRead.lean, Proof/RefValue.lean and Proof/Argmin.lean
  (both read entry by entry), Proof/Tie.lean (what the precondition says), Proof/Nearest.lean (why the kernel's score
  orders the codes as the distance does) and Proof/Equation.lean (the three results agree).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.Arrays
public import proofs.«01_k».proof.Proof.RefRun
public import proofs.«01_k».proof.Proof.Tie
public import proofs.«01_k».proof.Proof.Equation
public import Idealize.ShloMosaic.Adequacy
public import Idealize.ShloMosaic.Init

@[expose] public section

noncomputable section

namespace Cert.Proof

open Idealize.ShloMosaic Idealize.SL.Sem

/-- The reference runs, leaves its arguments alone and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run _ _ _).mono (fun _ h => ⟨fun c => ⟨(h.1 c).2.2.2.1, (h.1 c).2.2.2.2⟩, h.2⟩) (RefRun.run m g)

/-- The kernel's idealization and the reference end with the same three results. -/
theorem algebraic : algebraic_KernelIdeal_ReferenceIdeal (hKernelIdeal := Cert.KernelIdeal.Gen.facts)
    (hReferenceIdeal := Cert.ReferenceIdeal.Gen.facts) (hPre_no_tie := Cert.Pre_no_tie.Gen.facts) := by
  intro m g m' g' hpre hagree
  refine ⟨_, _, _, (θ_run _ _ _).mono (fun _ h => h) (Arrays.run m g), ?_⟩
  refine (θ_run _ _ _).mono (fun r h c => ?_) (RefRun.run m' g')
  obtain ⟨h0, h1, h2, h3, h4⟩ := h.1 c
  obtain ⟨a0, a1⟩ := hagree c
  have hnear := fun r => Tie.nearest _ _ (hpre c) r
  have hn : Equation.IsNearest _ _ fun r => (hnear r).choose := fun r => (hnear r).choose_spec
  rw [a0, a1] at h0 h1 h2
  exact ⟨h0.trans (Equation.images_eq hn).symm, h1.trans (Equation.codes_eq hn).symm, h2.trans (Equation.loss_eq hn).symm, h3, h4⟩

/-- All the claims. -/
theorem claim : Cert.Claim :=
  ⟨Cert.Kernel.Gen.facts, Cert.KernelIdeal.Gen.facts, Cert.ReferenceIdeal.Gen.facts, Cert.Pre_no_tie.Gen.facts,
    fun m g _ => Cert.Kernel.Gen.frame m g, fun m g _ => Cert.Kernel.Gen.frame m g, fun m g _ => Cert.KernelIdeal.Gen.frame m g,
    fun m g _ => reference_frame m g, fun m g _ => reference_frame m g, trivial, algebraic⟩

end Cert.Proof

end
